-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 1024]⟩ ⟨2, ![8192, 4096]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x1024 : Shape := ⟨2, ![8192, 1024]⟩
abbrev S3x8192x1024 : Shape := ⟨3, ![3, 8192, 1024]⟩
abbrev S2048x1024 : Shape := ⟨2, ![2048, 1024]⟩
abbrev S2x2048x1024 : Shape := ⟨3, ![2, 2048, 1024]⟩
abbrev S2x1024x1024 : Shape := ⟨3, ![2, 1024, 1024]⟩
abbrev S2 : Shape := ⟨1, ![2]⟩
abbrev S_ : Shape := ⟨0, ![]⟩
abbrev S1x8192x1024 : Shape := ⟨3, ![1, 8192, 1024]⟩
abbrev S1 : Shape := ⟨1, ![1]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S1x4096x1024 : Shape := ⟨3, ![1, 4096, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S8192x1024, .f32⟩
  | .hbm, ⟨2, _⟩ => ⟨S8192x1024, .f32⟩
  | .hbm, ⟨3, _⟩ => ⟨S3x8192x1024, .f32⟩
  | .hbm, ⟨4, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2x2048x1024, .f32⟩
  | .local _ .vmem, ⟨5, _⟩ => ⟨S2x1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_14 : BitVec 32 := 1#32
  let v16 : BitVec 32 := Scalar.muli v6 c1_i32_14
  let v17 : BitVec 32 := Scalar.addi c0_i32_15 v16
  v17.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_19 : BitVec 32 := 1#32
  let v20 : BitVec 32 := Scalar.muli v4 c1_i32_19
  let v21 : BitVec 32 := Scalar.addi c0_i32_20 v20
  v21.toNat
@[reducible] def k0_t1_loop : Scf.Loop 32 :=
  let c0_i32_47 : BitVec 32 := 0#32
  let c4_i32_48 : BitVec 32 := 4#32
  let v48 : BitVec 32 := Scalar.addi c0_i32_47 c4_i32_48
  let c1_i32_49 : BitVec 32 := 1#32
  ⟨c0_i32_47, v48, c1_i32_49⟩
def k0_off1 (k0_t1 : Fin k0_t1_loop.trips) (c0_i32_286 : BitVec 32) : Fin 2 → Nat :=
  let c0_i32_293 : BitVec 32 := 0#32
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let v256 : BitVec 32 := Scalar.addi v255 c0_i32_286
  let c1024_i32_287 : BitVec 32 := 1024#32
  let v257 : BitVec 32 := Scalar.muli v256 c1024_i32_287
  ![0, v257.toNat]
def k0_off2 (k0_t1 : Fin k0_t1_loop.trips) (c0_i32_286 : BitVec 32) : Fin 2 → Nat :=
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let v256 : BitVec 32 := Scalar.addi v255 c0_i32_286
  let c1024_i32_288 : BitVec 32 := 1024#32
  let v258 : BitVec 32 := Scalar.muli v256 c1024_i32_288
  let c0_i32_298 : BitVec 32 := 0#32
  ![v258.toNat, 0]
def k0_cond1 (k0_t1 : Fin k0_t1_loop.trips) : BitVec 1 :=
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let c0_i32_286 : BitVec 32 := 0#32
  let v256 : BitVec 32 := Scalar.addi v255 c0_i32_286
  let c2_i32_310 : BitVec 32 := 2#32
  let v279 : BitVec 32 := Scalar.addi v256 c2_i32_310
  let c8_i32 : BitVec 32 := 8#32
  let v280 : BitVec 1 := Scalar.cmpi .slt v279 c8_i32
  let v281 : BitVec 32 := Scalar.extui v280
  let c0_i32_311 : BitVec 32 := 0#32
  let v282 : BitVec 1 := Scalar.cmpi .ne v281 c0_i32_311
  v282

def k0_off3 (k0_t1 : Fin k0_t1_loop.trips) : Fin 2 → Nat :=
  let c0_i32_344 : BitVec 32 := 0#32
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let c0_i32_286 : BitVec 32 := 0#32
  let v256 : BitVec 32 := Scalar.addi v255 c0_i32_286
  let c2_i32_310 : BitVec 32 := 2#32
  let v279 : BitVec 32 := Scalar.addi v256 c2_i32_310
  let c1024_i32_338 : BitVec 32 := 1024#32
  let v310 : BitVec 32 := Scalar.muli v279 c1024_i32_338
  ![0, v310.toNat]
def k0_off4 (k0_t1 : Fin k0_t1_loop.trips) : Fin 2 → Nat :=
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let c0_i32_286 : BitVec 32 := 0#32
  let v256 : BitVec 32 := Scalar.addi v255 c0_i32_286
  let c2_i32_310 : BitVec 32 := 2#32
  let v279 : BitVec 32 := Scalar.addi v256 c2_i32_310
  let c1024_i32_339 : BitVec 32 := 1024#32
  let v311 : BitVec 32 := Scalar.muli v279 c1024_i32_339
  let c0_i32_349 : BitVec 32 := 0#32
  ![v311.toNat, 0]
def k0_cond2 (k0_t1 : Fin k0_t1_loop.trips) : BitVec 1 :=
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let c1_i32_312 : BitVec 32 := 1#32
  let v283 : BitVec 32 := Scalar.addi v255 c1_i32_312
  let c2_i32_335 : BitVec 32 := 2#32
  let v306 : BitVec 32 := Scalar.addi v283 c2_i32_335
  let c8_i32_336 : BitVec 32 := 8#32
  let v307 : BitVec 1 := Scalar.cmpi .slt v306 c8_i32_336
  let v308 : BitVec 32 := Scalar.extui v307
  let c0_i32_337 : BitVec 32 := 0#32
  let v309 : BitVec 1 := Scalar.cmpi .ne v308 c0_i32_337
  v309

def k0_off5 (k0_t1 : Fin k0_t1_loop.trips) : Fin 2 → Nat :=
  let c0_i32_344 : BitVec 32 := 0#32
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let c1_i32_312 : BitVec 32 := 1#32
  let v283 : BitVec 32 := Scalar.addi v255 c1_i32_312
  let c2_i32_335 : BitVec 32 := 2#32
  let v306 : BitVec 32 := Scalar.addi v283 c2_i32_335
  let c1024_i32_338 : BitVec 32 := 1024#32
  let v310 : BitVec 32 := Scalar.muli v306 c1024_i32_338
  ![0, v310.toNat]
def k0_off6 (k0_t1 : Fin k0_t1_loop.trips) : Fin 2 → Nat :=
  let c0_i32_47 : BitVec 32 := 0#32
  let c1_i32_49 : BitVec 32 := 1#32
  let arg29 : BitVec 32 := Scf.iv c0_i32_47 c1_i32_49 k0_t1
  let c2_i32_285 : BitVec 32 := 2#32
  let v255 : BitVec 32 := Scalar.muli arg29 c2_i32_285
  let c1_i32_312 : BitVec 32 := 1#32
  let v283 : BitVec 32 := Scalar.addi v255 c1_i32_312
  let c2_i32_335 : BitVec 32 := 2#32
  let v306 : BitVec 32 := Scalar.addi v283 c2_i32_335
  let c1024_i32_339 : BitVec 32 := 1024#32
  let v311 : BitVec 32 := Scalar.muli v306 c1024_i32_339
  let c0_i32_349 : BitVec 32 := 0#32
  ![v311.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v61 : BitVec 32 := Scalar.muli v2 c2048_i32
  let c0_i32_58 : BitVec 32 := 0#32
  ![v61.toNat, 0]
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_69 : BitVec 32 := 1#32
  let v70 : BitVec 32 := Scalar.muli v6 c1_i32_69
  let v71 : BitVec 32 := Scalar.addi c0_i32_70 v70
  v71.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_82 : BitVec 32 := 1#32
  let v80 : BitVec 32 := Scalar.muli v4 c1_i32_82
  let v81 : BitVec 32 := Scalar.addi c0_i32_83 v80
  v81.toNat
@[reducible] def k0_t2_loop : Scf.Loop 32 :=
  let c0_i32_121 : BitVec 32 := 0#32
  let c4_i32_122 : BitVec 32 := 4#32
  let v114 : BitVec 32 := Scalar.addi c0_i32_121 c4_i32_122
  let c1_i32_123 : BitVec 32 := 1#32
  ⟨c0_i32_121, v114, c1_i32_123⟩
def k0_off8 (k0_t2 : Fin k0_t2_loop.trips) (c0_i32_286 : BitVec 32) : Fin 2 → Nat :=
  let c0_i32_293 : BitVec 32 := 0#32
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let v256 : BitVec 32 := Scalar.addi v255 c0_i32_286
  let c1024_i32_287 : BitVec 32 := 1024#32
  let v257 : BitVec 32 := Scalar.muli v256 c1024_i32_287
  ![0, v257.toNat]
def k0_off9 (k0_t2 : Fin k0_t2_loop.trips) (c0_i32_286 : BitVec 32) : Fin 2 → Nat :=
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let v256 : BitVec 32 := Scalar.addi v255 c0_i32_286
  let c1024_i32_288 : BitVec 32 := 1024#32
  let v258 : BitVec 32 := Scalar.muli v256 c1024_i32_288
  let c0_i32_300 : BitVec 32 := 0#32
  ![v258.toNat, 0]
def k0_cond3 (k0_t2 : Fin k0_t2_loop.trips) : BitVec 1 :=
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c8_i32 : BitVec 32 := 8#32
  let v282 : BitVec 1 := Scalar.cmpi .slt v281 c8_i32
  let v283 : BitVec 32 := Scalar.extui v282
  let c0_i32_313 : BitVec 32 := 0#32
  let v284 : BitVec 1 := Scalar.cmpi .ne v283 c0_i32_313
  v284

def k0_off10 (k0_t2 : Fin k0_t2_loop.trips) : Fin 2 → Nat :=
  let c0_i32_348 : BitVec 32 := 0#32
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c1024_i32_342 : BitVec 32 := 1024#32
  let v314 : BitVec 32 := Scalar.muli v281 c1024_i32_342
  ![0, v314.toNat]
def k0_off11 (k0_t2 : Fin k0_t2_loop.trips) : Fin 2 → Nat :=
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c1024_i32_343 : BitVec 32 := 1024#32
  let v315 : BitVec 32 := Scalar.muli v281 c1024_i32_343
  let c0_i32_355 : BitVec 32 := 0#32
  ![v315.toNat, 0]
def k0_cond4 (k0_t2 : Fin k0_t2_loop.trips) : BitVec 1 :=
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c8_i32_340 : BitVec 32 := 8#32
  let v311 : BitVec 1 := Scalar.cmpi .slt v310 c8_i32_340
  let v312 : BitVec 32 := Scalar.extui v311
  let c0_i32_341 : BitVec 32 := 0#32
  let v313 : BitVec 1 := Scalar.cmpi .ne v312 c0_i32_341
  v313

def k0_off12 (k0_t2 : Fin k0_t2_loop.trips) : Fin 2 → Nat :=
  let c0_i32_348 : BitVec 32 := 0#32
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c1024_i32_342 : BitVec 32 := 1024#32
  let v314 : BitVec 32 := Scalar.muli v310 c1024_i32_342
  ![0, v314.toNat]
def k0_off13 (k0_t2 : Fin k0_t2_loop.trips) : Fin 2 → Nat :=
  let c0_i32_121 : BitVec 32 := 0#32
  let c1_i32_123 : BitVec 32 := 1#32
  let arg29 : BitVec 32 := Scf.iv c0_i32_121 c1_i32_123 k0_t2
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c1024_i32_343 : BitVec 32 := 1024#32
  let v315 : BitVec 32 := Scalar.muli v310 c1024_i32_343
  let c0_i32_355 : BitVec 32 := 0#32
  ![v315.toNat, 0]
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_132 : BitVec 32 := 1#32
  let v127 : BitVec 32 := Scalar.muli v4 c1_i32_132
  let v128 : BitVec 32 := Scalar.addi c0_i32_133 v127
  v128.toNat
@[reducible] def k0_t3_loop : Scf.Loop 32 :=
  let c0_i32_169 : BitVec 32 := 0#32
  let c4_i32_170 : BitVec 32 := 4#32
  let v158 : BitVec 32 := Scalar.addi c0_i32_169 c4_i32_170
  let c1_i32_171 : BitVec 32 := 1#32
  ⟨c0_i32_169, v158, c1_i32_171⟩
def k0_off14 (k0_t3 : Fin k0_t3_loop.trips) (c0_i32_286 : BitVec 32) : Fin 2 → Nat :=
  let c0_i32_293 : BitVec 32 := 0#32
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let v256 : BitVec 32 := Scalar.addi v255 c0_i32_286
  let c1024_i32_287 : BitVec 32 := 1024#32
  let v257 : BitVec 32 := Scalar.muli v256 c1024_i32_287
  ![0, v257.toNat]
def k0_off15 (k0_t3 : Fin k0_t3_loop.trips) (c0_i32_286 : BitVec 32) : Fin 2 → Nat :=
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let v256 : BitVec 32 := Scalar.addi v255 c0_i32_286
  let c1024_i32_288 : BitVec 32 := 1024#32
  let v258 : BitVec 32 := Scalar.muli v256 c1024_i32_288
  let c0_i32_300 : BitVec 32 := 0#32
  ![v258.toNat, 0]
def k0_cond5 (k0_t3 : Fin k0_t3_loop.trips) : BitVec 1 :=
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c8_i32 : BitVec 32 := 8#32
  let v282 : BitVec 1 := Scalar.cmpi .slt v281 c8_i32
  let v283 : BitVec 32 := Scalar.extui v282
  let c0_i32_313 : BitVec 32 := 0#32
  let v284 : BitVec 1 := Scalar.cmpi .ne v283 c0_i32_313
  v284

def k0_off16 (k0_t3 : Fin k0_t3_loop.trips) : Fin 2 → Nat :=
  let c0_i32_348 : BitVec 32 := 0#32
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c1024_i32_342 : BitVec 32 := 1024#32
  let v314 : BitVec 32 := Scalar.muli v281 c1024_i32_342
  ![0, v314.toNat]
def k0_off17 (k0_t3 : Fin k0_t3_loop.trips) : Fin 2 → Nat :=
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c1024_i32_343 : BitVec 32 := 1024#32
  let v315 : BitVec 32 := Scalar.muli v281 c1024_i32_343
  let c0_i32_355 : BitVec 32 := 0#32
  ![v315.toNat, 0]
def k0_cond6 (k0_t3 : Fin k0_t3_loop.trips) : BitVec 1 :=
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c8_i32_340 : BitVec 32 := 8#32
  let v311 : BitVec 1 := Scalar.cmpi .slt v310 c8_i32_340
  let v312 : BitVec 32 := Scalar.extui v311
  let c0_i32_341 : BitVec 32 := 0#32
  let v313 : BitVec 1 := Scalar.cmpi .ne v312 c0_i32_341
  v313

def k0_off18 (k0_t3 : Fin k0_t3_loop.trips) : Fin 2 → Nat :=
  let c0_i32_348 : BitVec 32 := 0#32
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c1024_i32_342 : BitVec 32 := 1024#32
  let v314 : BitVec 32 := Scalar.muli v310 c1024_i32_342
  ![0, v314.toNat]
def k0_off19 (k0_t3 : Fin k0_t3_loop.trips) : Fin 2 → Nat :=
  let c0_i32_169 : BitVec 32 := 0#32
  let c1_i32_171 : BitVec 32 := 1#32
  let arg29 : BitVec 32 := Scf.iv c0_i32_169 c1_i32_171 k0_t3
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c1024_i32_343 : BitVec 32 := 1024#32
  let v315 : BitVec 32 := Scalar.muli v310 c1024_i32_343
  let c0_i32_355 : BitVec 32 := 0#32
  ![v315.toNat, 0]
def k0_dev9 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_180 : BitVec 32 := 1#32
  let v171 : BitVec 32 := Scalar.muli v6 c1_i32_180
  let v172 : BitVec 32 := Scalar.addi c0_i32_181 v171
  v172.toNat
@[reducible] def k0_t4_loop : Scf.Loop 32 :=
  let c0_i32_233 : BitVec 32 := 0#32
  let c4_i32_234 : BitVec 32 := 4#32
  let v214 : BitVec 32 := Scalar.addi c0_i32_233 c4_i32_234
  let c1_i32_235 : BitVec 32 := 1#32
  ⟨c0_i32_233, v214, c1_i32_235⟩
def k0_off20 (k0_t4 : Fin k0_t4_loop.trips) (c0_i32_286 : BitVec 32) : Fin 2 → Nat :=
  let c0_i32_293 : BitVec 32 := 0#32
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let v256 : BitVec 32 := Scalar.addi v255 c0_i32_286
  let c1024_i32_287 : BitVec 32 := 1024#32
  let v257 : BitVec 32 := Scalar.muli v256 c1024_i32_287
  ![0, v257.toNat]
def k0_off21 (k0_t4 : Fin k0_t4_loop.trips) (c0_i32_286 : BitVec 32) : Fin 2 → Nat :=
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let v256 : BitVec 32 := Scalar.addi v255 c0_i32_286
  let c1024_i32_288 : BitVec 32 := 1024#32
  let v258 : BitVec 32 := Scalar.muli v256 c1024_i32_288
  let c0_i32_300 : BitVec 32 := 0#32
  ![v258.toNat, 0]
def k0_cond7 (k0_t4 : Fin k0_t4_loop.trips) : BitVec 1 :=
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c8_i32 : BitVec 32 := 8#32
  let v282 : BitVec 1 := Scalar.cmpi .slt v281 c8_i32
  let v283 : BitVec 32 := Scalar.extui v282
  let c0_i32_313 : BitVec 32 := 0#32
  let v284 : BitVec 1 := Scalar.cmpi .ne v283 c0_i32_313
  v284

def k0_off22 (k0_t4 : Fin k0_t4_loop.trips) : Fin 2 → Nat :=
  let c0_i32_348 : BitVec 32 := 0#32
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c1024_i32_342 : BitVec 32 := 1024#32
  let v314 : BitVec 32 := Scalar.muli v281 c1024_i32_342
  ![0, v314.toNat]
def k0_off23 (k0_t4 : Fin k0_t4_loop.trips) : Fin 2 → Nat :=
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let c0_i32_286 : BitVec 32 := 0#32
  let v256 : BitVec 32 := Scalar.addi v255 c0_i32_286
  let c2_i32_312 : BitVec 32 := 2#32
  let v281 : BitVec 32 := Scalar.addi v256 c2_i32_312
  let c1024_i32_343 : BitVec 32 := 1024#32
  let v315 : BitVec 32 := Scalar.muli v281 c1024_i32_343
  let c0_i32_355 : BitVec 32 := 0#32
  ![v315.toNat, 0]
def k0_cond8 (k0_t4 : Fin k0_t4_loop.trips) : BitVec 1 :=
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c8_i32_340 : BitVec 32 := 8#32
  let v311 : BitVec 1 := Scalar.cmpi .slt v310 c8_i32_340
  let v312 : BitVec 32 := Scalar.extui v311
  let c0_i32_341 : BitVec 32 := 0#32
  let v313 : BitVec 1 := Scalar.cmpi .ne v312 c0_i32_341
  v313

def k0_off24 (k0_t4 : Fin k0_t4_loop.trips) : Fin 2 → Nat :=
  let c0_i32_348 : BitVec 32 := 0#32
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c1024_i32_342 : BitVec 32 := 1024#32
  let v314 : BitVec 32 := Scalar.muli v310 c1024_i32_342
  ![0, v314.toNat]
def k0_off25 (k0_t4 : Fin k0_t4_loop.trips) : Fin 2 → Nat :=
  let c0_i32_233 : BitVec 32 := 0#32
  let c1_i32_235 : BitVec 32 := 1#32
  let arg29 : BitVec 32 := Scf.iv c0_i32_233 c1_i32_235 k0_t4
  let c2_i32_285 : BitVec 32 := 2#32
  let v255 : BitVec 32 := Scalar.muli arg29 c2_i32_285
  let c1_i32_314 : BitVec 32 := 1#32
  let v285 : BitVec 32 := Scalar.addi v255 c1_i32_314
  let c2_i32_339 : BitVec 32 := 2#32
  let v310 : BitVec 32 := Scalar.addi v285 c2_i32_339
  let c1024_i32_343 : BitVec 32 := 1024#32
  let v315 : BitVec 32 := Scalar.muli v310 c1024_i32_343
  let c0_i32_355 : BitVec 32 := 0#32
  ![v315.toNat, 0]
def k0_dev10 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_244 : BitVec 32 := 1#32
  let v227 : BitVec 32 := Scalar.muli v8 c1_i32_244
  let v228 : BitVec 32 := Scalar.addi c0_i32_245 v227
  v228.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Kit.lean ====
/-
  A memref of a device held at named contents, and the steps a kernel takes with such holdings: a local copy issued
  and waited for while the device still owes other devices, a load of a whole memref or of one slot, a store of a whole memref.
  Nothing here mentions the kernel.
-/
module

public import Idealize.ShloMosaic.Lib.Transfers
public import Idealize.ShloMosaic.Lib.VecWindow
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Kit

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type} {U : Type} [URA U]

local notation "𝕄" => MT nD τ sig Unit Val ℕ U ℕ

variable [∀ e, Nonempty (Val e)]
variable {sp sp' : Space} {s s' : Shape} {e : EltTy}

/-- The elements of the memref `m` of `c` held at share `q`, reading `x`. -/
def holds (c : Thread nD τ) (m : Memref sig c.2.kind sp s e) (q : PosShare TreeShare) (x : s.Idx → Val e) : sProp 𝕄 :=
  m.view.loc c ↦[m.view.set]{q} m.view.rep x

/-- The elements of the memref `m` of `c` held in full, at some contents. -/
def room (c : Thread nD τ) (m : Memref sig c.2.kind sp s e) : sProp 𝕄 :=
  iprop(∃ f : Buf Val (m.view.loc c), m.view.loc c ↦[m.view.set]{fullShare} f)

instance holds_storable (c : Thread nD τ) (m : Memref sig c.2.kind sp s e) (q : PosShare TreeShare) (x : s.Idx → Val e) :
    BI.Storable (upEmb : UEmb _ 𝕄) (holds c m q x) := by unfold holds; infer_instance

instance room_storable (c : Thread nD τ) (m : Memref sig c.2.kind sp s e) :
    BI.Storable (upEmb : UEmb _ 𝕄) (room c m) := by unfold room; infer_instance

/-- Any contents are the contents that read the same. -/
theorem holds_of (c : Thread nD τ) (m : Memref sig c.2.kind sp s e) (q : PosShare TreeShare) (f : Buf Val (m.view.loc c)) :
    (m.view.loc c ↦[m.view.set]{q} f : sProp 𝕄) = holds c m q (m.view.read Val f) := pointsTo_rep c m f q

/-- A memref wholly written holds what was written. -/
theorem holds_of_write (c : Thread nD τ) (m : Memref sig c.2.kind sp s e) (f : Buf Val (m.view.loc c)) (w : s.Idx → Val e) :
    (m.view.loc c ↦[m.view.set]{fullShare} m.view.write Val f w Finset.univ : sProp 𝕄) = holds c m fullShare w := by
  rw [holds_of, View.read_write_univ]

theorem room_of_holds (c : Thread nD τ) (m : Memref sig c.2.kind sp s e) (x : s.Idx → Val e) :
    (holds c m fullShare x : sProp 𝕄) ⊢ room c m := by
  unfold holds room; iintro H; iexists _; iexact H

/-- A share is its two halves. -/
theorem holds_halves (c : Thread nD τ) (m : Memref sig c.2.kind sp s e) (q : PosShare TreeShare) (x : s.Idx → Val e) :
    (holds c m q x : sProp 𝕄) ⊣⊢ iprop(holds c m q.left x ∗ holds c m q.right x) := by
  unfold holds; exact pointsTo_share (PosShare.mem_left_op_right q)

/-- What a flight delivers may be joined by anything held meanwhile. -/
theorem flight_with (EC : UEmb Counters 𝕄) (c : Thread nD τ) {sm : SemLoc sig} {N : ℕ} {D R : sProp 𝕄} :
    iprop(Flight EC c sm () N D ∗ R) ⊢ (Flight EC c sm () N iprop(D ∗ R) : sProp 𝕄) := by
  unfold Flight
  iintro ⟨⟨⟨%K, HK, %hcap, %hpeek⟩, Hcred⟩, HR⟩
  isplitl [HK HR]
  · iexists iprop(K ∗ R)
    isplitl [HK HR]; · isplitl [HK] <;> iassumption
    isplit
    · ipureintro
      intro G
      refine BIBase.Entails.trans ?_ (hcap G)
      iintro ⟨⟨HK, HR⟩, HG⟩
      isplitl [HK]; · iexact HK
      iintro ⟨Hv, HD⟩
      iapply HG
      isplitl [Hv]; · iexact Hv
      isplitl [HD] <;> iassumption
    · ipureintro
      intro G
      refine BIBase.Entails.trans ?_ (hpeek G)
      iintro ⟨⟨HK, HR⟩, HG⟩
      isplitl [HK]; · iexact HK
      iintro HK
      iapply HG
      isplitl [HK] <;> iassumption
  · iexact Hcred

section Steps

variable {Λ : Labels} {defs : Defs nD τ sig Val Λ} (𝒱 : Variants) (c : Thread nD τ) (bd : Option 𝒱.V)
variable {α : Type} {Q : α → sProp (MT nD τ sig Unit Val ℕ U ℕ)}
variable (EC : UEmb Counters (MT nD τ sig Unit Val ℕ U ℕ)) [EC.LandsIn (upEmb : UEmb _ (MT nD τ sig Unit Val ℕ U ℕ))]

/-- A local copy issued: what is held of the source's buffer around it rides along and comes back with the landing. -/
theorem wp_issue {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} (S : Finset (Idx (src.view.loc c))) (q : PosShare TreeShare) (fs : Buf Val (src.view.loc c))
    (N : ℕ) (hN : dst.view.amount sm = N) (hN0 : 0 < N) (hS : src.view.set ⊆ S) (X : s.Idx → Val e) (hX : src.view.read Val fs = X) :
    iprop((src.view.loc c ↦[S]{q} fs) ∗ room c dst ∗ semVal (c, sm) 0)
      ⊢ iprop((Flight EC c sm () N iprop(holds c dst fullShare X ∗ (src.view.loc c ↦[S]{q} fs))
              -∗ wp frame (wpE defs 𝒱 c bd) Set.univ (k ⟨⟩) Q)
          -∗ wp frame (wpE defs 𝒱 c bd) Set.univ (.op (.enqueueDma src (.here dst) sm hsrc hdst hsem) k) Q) := by
  subst hX
  unfold room
  iintro ⟨Hs, ⟨%fd, Hd⟩, Hv⟩ Hk
  ihave Hs := (pointsTo_split_subset hS).1 $$ Hs
  icases Hs with ⟨Hs, Hr⟩
  iapply (wp_dmaLocal EC 𝒱 c bd () N hN hN0 (Sd := dst.view.set) subset_rfl (via := .same) (q := q) (fs := fs) (fd := fd)) $$ [Hs Hd Hv]
  · isplitl [Hs]; · iexact Hs
    isplitl [Hd]; · iexact Hd
    iexact Hv
  iintro Hf
  iapply Hk
  ihave Hf := (flight_with EC c (R := iprop(src.view.loc c ↦[S \ src.view.set]{q} fs))) $$ [Hf Hr]
  · isplitl [Hf]; · iexact Hf
    iexact Hr
  iapply (Flight_mono EC c (D' := iprop(holds c dst fullShare (src.view.read Val fs) ∗ (src.view.loc c ↦[S]{q} fs))) ?_) $$ Hf
  iintro ⟨⟨Hd, Hs⟩, Hr⟩
  isplitl [Hd]
  · iapply (Entails.of_eq (holds_of_write c dst fd (src.view.read Val fs))) $$ Hd
  · iapply (pointsTo_split_subset hS).2
    isplitl [Hs] <;> iassumption

/-- A local copy issued of one rectangle of a memref that is held whole: the memref comes back whole with the landing. -/
theorem wp_issue_slice {t : Shape} {m : Memref sig c.2.kind sp t e} {off : Fin t.rank → ℕ} {sz : Fin t.rank → ℕ} {inb : ∀ a, off a + sz a ≤ t.size a}
    {hr : ∀ a, (Rect.unit off sz inb).stride a = 1}
    {dst : Memref sig c.2.kind sp' ⟨t.rank, sz⟩ e} {sm : SemLoc sig}
    {hsrc : (m.slice (Rect.unit off sz inb) hr).view.WordExact} {hdst : dst.view.WordExact} {hsem : DmaTarget.Typed (nD := nD) sp sm (.here dst)}
    {k : PUnit → Prog (TpuEff nD τ sig Val Λ c.2) α} (q : PosShare TreeShare) (x : t.Idx → Val e)
    (N : ℕ) (hN : dst.view.amount sm = N) (hN0 : 0 < N) (X : (⟨t.rank, sz⟩ : Shape).Idx → Val e)
    (hX : (fun i => x ((Rect.unit off sz inb).emb i)) = X) :
    iprop(holds c m q x ∗ room c dst ∗ semVal (c, sm) 0)
      ⊢ iprop((Flight EC c sm () N iprop(holds c dst fullShare X ∗ holds c m q x)
              -∗ wp frame (wpE defs 𝒱 c bd) Set.univ (k ⟨⟩) Q)
          -∗ wp frame (wpE defs 𝒱 c bd) Set.univ (.op (.enqueueDma (m.slice (Rect.unit off sz inb) hr) (.here dst) sm hsrc hdst hsem) k) Q) :=
  wp_issue 𝒱 c bd EC (src := m.slice (Rect.unit off sz inb) hr) m.view.set q (m.view.rep x) N hN hN0 (View.set_slice_subset _ _) X
    ((funext fun i => congrFun (View.read_rep m.view x) _).trans hX)

/-- A load of a memref's whole rectangle reads what the memref holds. -/
theorem wp_load_all {cs : CoreSpace} {m : Memref sig c.2.kind cs s e} {off : Fin s.rank → ℕ} {inb : ∀ a, off a + s.size a ≤ s.size a}
    {hl : m.view.LoadsAt (Rect.unit off s.size inb).toLoadRect} {k : (s.Idx → Val e) → Prog (TpuEff nD τ sig Val Λ c.2) α}
    {q : PosShare TreeShare} {x : s.Idx → Val e} :
    (holds c m q x : sProp 𝕄)
      ⊢ iprop((holds c m q x -∗ wp frame (wpE defs 𝒱 c bd) Set.univ (k x) Q)
        -∗ wp frame (wpE defs 𝒱 c bd) Set.univ (.op (.load m (Rect.unit off s.size inb).toLoadRect hl) k) Q) := by
  have h := wp_load (defs := defs) 𝒱 c bd Set.univ (m := m) (hl := hl) (k := k) (S := m.view.set) (q := q) (f := m.view.rep x) (Q := Q) (Γ := .empty)
    (View.setOn_subset_set _ _)
  rw [View.readAt_rep_full] at h
  exact h

/-- A load of the rectangle of one slot, the slot being held under its own shape. -/
theorem wp_load_slot {cs : CoreSpace} {m : Memref sig c.2.kind cs s e} {r : Rect s} {hr : ∀ a, r.stride a = 1} {hq : r.shape.Squeezes s'}
    (hc : r.shape.ShapeCasts s')
    {hl : m.view.LoadsAt r.toLoadRect} {k : (r.shape.Idx → Val e) → Prog (TpuEff nD τ sig Val Λ c.2) α}
    {q : PosShare TreeShare} {x : s'.Idx → Val e} :
    (holds c ((m.slice r hr).squeeze s' hq) q x : sProp 𝕄)
      ⊢ iprop((∀ v, ⌜shapeCast s' v hc = x⌝ -∗ holds c ((m.slice r hr).squeeze s' hq) q x -∗ wp frame (wpE defs 𝒱 c bd) Set.univ (k v) Q)
        -∗ wp frame (wpE defs 𝒱 c bd) Set.univ (.op (.load m r.toLoadRect hl) k) Q) := by
  unfold holds
  iintro H Hk
  iapply (wp_load 𝒱 c bd Set.univ (m := m) (hl := hl) (S := ((m.slice r hr).squeeze s' hq).view.set) (q := q)
    (f := ((m.slice r hr).squeeze s' hq).view.rep x) (by
      rw [Memref.set_view_squeeze]; exact (View.set_slice (v := m.view) r).ge)) $$ H
  iintro H
  iapply Hk $$ [] [H]
  · ipureintro
    exact (Memref.read_squeeze_slice m r hr hq hc _).symm.trans (View.read_rep _ _)
  · iexact H

/-- A store over a memref's whole rectangle leaves it holding the payload. -/
theorem wp_store_all {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} :
    (room c m : sProp 𝕄)
      ⊢ iprop((holds c m fullShare w -∗ wp frame (wpE defs 𝒱 c bd) Set.univ (k ⟨⟩) Q)
        -∗ wp frame (wpE defs 𝒱 c bd) Set.univ (.op (.store m (Rect.unit off s.size inb) w Finset.univ hx hm) k) Q) := by
  unfold room
  iintro ⟨%f, H⟩ Hk
  iapply (wp_store 𝒱 c bd Set.univ (hx := hx) (S := m.view.set) (f := f) (Memref.setOn_access_subset m _ _)) $$ H
  iintro H
  iapply Hk
  iapply (Entails.of_eq ?_) $$ H
  show ((m.view.loc c ↦[m.view.set]{fullShare} ((m.access (Rect.unit off s.size inb)).write Val f w Finset.univ)) : sProp 𝕄) = _
  rw [holds_of]
  congr 1
  have := Memref.read_slice_write m inb rfl inb f w
  funext y
  have h := congrFun this y
  refine Eq.trans ?_ h
  show _ = m.view.read Val _ ((Rect.unit off s.size inb).emb y)
  rw [Rect.emb_unit_full]

end Steps

end Cert.Kit

end
-- ==== Proof.Pieces.lean ====
/-
  A buffer held whole, held by its pieces: cutting it into rectangles, and putting rectangles together again.
  Nothing here mentions the kernel.
-/
module

public import proofs.«01_k».proof.Proof.Kit

@[expose] public section

noncomputable section

namespace Cert.Kit

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

variable [∀ e, Nonempty (Val e)]
variable {sp : Space} {s sA sB sC : Shape} {e : EltTy}

/-- A rectangle of a memref, its unit axes dropped. -/
abbrev piece {κ : Kind} (M : Memref sig κ sp s e) (r : Rect s) (hr : ∀ a, r.stride a = 1) (t : Shape) (hq : r.shape.Squeezes t) : Memref sig κ sp t e :=
  (M.slice r hr).squeeze t hq

theorem piece_set {κ : Kind} (M : Memref sig κ sp s e) (r : Rect s) (hr : ∀ a, r.stride a = 1) (t : Shape) (hq : r.shape.Squeezes t) :
    (piece M r hr t hq).view.set = r.set.map M.view.emb :=
  (Memref.set_view_squeeze (M.slice r hr) hq).trans (View.set_slice M.view r)

variable (c : Thread nD τ) (M : Memref sig c.2.kind sp s e)
variable {rA rB rC : Rect s} {hA : ∀ a, rA.stride a = 1} {hB : ∀ a, rB.stride a = 1} {hC : ∀ a, rC.stride a = 1}
variable {qA : rA.shape.Squeezes sA} {qB : rB.shape.Squeezes sB} {qC : rC.shape.Squeezes sC}

/-- A piece of a piece: what the larger piece holds, at the smaller one's indices. -/
theorem piece_of_piece (g : sB.Idx → sA.Idx)
    (h : ∀ j, rB.emb (Shape.reshapeEquiv qB.numel_eq j) = rA.emb (Shape.reshapeEquiv qA.numel_eq (g j))) (q : PosShare TreeShare) (x : sA.Idx → Val e) :
    (M.view.loc c ↦[(piece M rB hB sB qB).view.set]{q} (piece M rA hA sA qA).view.rep x : sProp 𝕄)
      = holds c (piece M rB hB sB qB) q (fun j => x (g j)) := by
  refine (holds_of c (piece M rB hB sB qB) q _).trans (congrArg _ (funext fun j => ?_))
  show M.view.read Val ((piece M rA hA sA qA).view.rep x) (rB.emb (Shape.reshapeEquiv qB.numel_eq j)) = _
  rw [h]
  exact congrFun (View.read_rep (piece M rA hA sA qA).view x) (g j)

/-- A piece within a larger one that is held. -/
theorem holds_within (g : sB.Idx → sA.Idx)
    (h : ∀ j, rB.emb (Shape.reshapeEquiv qB.numel_eq j) = rA.emb (Shape.reshapeEquiv qA.numel_eq (g j))) (hs : rB.set ⊆ rA.set)
    (q : PosShare TreeShare) (x : sA.Idx → Val e) :
    (holds c (piece M rA hA sA qA) q x : sProp 𝕄) ⊢ holds c (piece M rB hB sB qB) q (fun j => x (g j)) := by
  rw [← piece_of_piece c M (hA := hA) (qA := qA) (hB := hB) (qB := qB) g h q x]
  have hss : (piece M rB hB sB qB).view.set ⊆ (piece M rA hA sA qA).view.set := by
    rw [piece_set, piece_set]; exact Finset.map_subset_map.mpr hs
  unfold holds
  iintro H
  ihave H := (pointsTo_split_subset hss).1 $$ H
  icases H with ⟨H, -⟩
  iexact H

/-- Two pieces that make up a larger one. -/
theorem holds_join (g : sB.Idx → sA.Idx) (k : sC.Idx → sA.Idx)
    (h : ∀ j, rB.emb (Shape.reshapeEquiv qB.numel_eq j) = rA.emb (Shape.reshapeEquiv qA.numel_eq (g j)))
    (h' : ∀ j, rC.emb (Shape.reshapeEquiv qC.numel_eq j) = rA.emb (Shape.reshapeEquiv qA.numel_eq (k j)))
    (hd : Disjoint rB.set rC.set) (hu : rA.set = rB.set ∪ rC.set) (q : PosShare TreeShare) (x : sA.Idx → Val e) :
    iprop(holds c (piece M rB hB sB qB) q (fun j => x (g j)) ∗ holds c (piece M rC hC sC qC) q (fun j => x (k j)))
      ⊢ (holds c (piece M rA hA sA qA) q x : sProp 𝕄) := by
  rw [← piece_of_piece c M (hA := hA) (qA := qA) (hB := hB) (qB := qB) g h q x, ← piece_of_piece c M (hA := hA) (qA := qA) (hB := hC) (qB := qC) k h' q x]
  have hss : (piece M rA hA sA qA).view.set = (piece M rB hB sB qB).view.set ∪ (piece M rC hC sC qC).view.set := by
    rw [piece_set, piece_set, piece_set, hu, Finset.map_union]
  have hdd : Disjoint (piece M rB hB sB qB).view.set (piece M rC hC sC qC).view.set := by
    rw [piece_set, piece_set]; exact (Finset.disjoint_map _).mpr hd
  unfold holds
  rw [hss]
  exact (pointsTo_union hdd).2

/-- A memref held whole holds its slices. -/
theorem slice_of_whole {r : Rect s} {hr : ∀ a, r.stride a = 1} (q : PosShare TreeShare) (x : s.Idx → Val e) :
    (M.view.loc c ↦[(M.slice r hr).view.set]{q} M.view.rep x : sProp 𝕄) = holds c (M.slice r hr) q (fun j => x (r.emb j)) := by
  refine (holds_of c (M.slice r hr) q _).trans (congrArg _ (funext fun j => ?_))
  show M.view.read Val (M.view.rep x) (r.emb j) = _
  rw [View.read_rep]

/-- A buffer in full, at the contents a memref over all of it reads. -/
theorem holds_whole (b : Ref sig c.2.kind) (q : PosShare TreeShare) (f : Buf Val (c.loc b)) :
    (c.loc b ↦{q} f : sProp 𝕄) = holds c (Memref.whole b) q f := by
  refine Eq.trans ?_ (holds_of c (Memref.whole b) q f)
  rw [show (Memref.whole b).view.set = Finset.univ from View.set_whole b]

theorem room_whole (b : Ref sig c.2.kind) : (iprop(∃ f : Buf Val (c.loc b), c.loc b ↦{fullShare} f) : sProp 𝕄) = room c (Memref.whole b) := by
  unfold room
  rw [show (Memref.whole b).view.set = Finset.univ from View.set_whole b]

/-- Elements held in full at some contents. -/
def some (ℓ : Loc nD τ sig) (S : Finset (Idx ℓ)) : sProp 𝕄 := iprop(∃ f : Buf Val ℓ, ℓ ↦[S]{fullShare} f)

theorem some_cut {ℓ : Loc nD τ sig} {S I : Finset (Idx ℓ)} (h : I ⊆ S) : (some ℓ S : sProp 𝕄) ⊢ iprop(some ℓ I ∗ some ℓ (S \ I)) := by
  unfold some
  iintro ⟨%f, H⟩
  ihave H := (pointsTo_split_subset h).1 $$ H
  icases H with ⟨H, H'⟩
  isplitl [H]
  · iexists f; iexact H
  · iexists f; iexact H'

theorem some_join {ℓ : Loc nD τ sig} {S I J : Finset (Idx ℓ)} (h : Disjoint I J) (hS : I ∪ J = S) : iprop(some ℓ I ∗ some ℓ J) ⊢ (some ℓ S : sProp 𝕄) := by
  subst hS
  unfold some
  iintro ⟨⟨%f, H⟩, ⟨%g, H'⟩⟩
  iexists _
  iapply (pointsTo_join h)
  isplitl [H] <;> iassumption

/-- Two pieces that make up a memref: room in it is room in both. -/
theorem room_cut (hd : Disjoint rB.set rC.set) (hu : rB.set ∪ rC.set = Finset.univ) :
    (room c M : sProp 𝕄) ⊢ iprop(room c (piece M rB hB sB qB) ∗ room c (piece M rC hC sC qC)) := by
  have hs : (piece M rC hC sC qC).view.set = M.view.set \ (piece M rB hB sB qB).view.set := by
    rw [piece_set, piece_set, View.set, ← hu, Finset.map_union, Finset.union_sdiff_cancel_left ((Finset.disjoint_map _).mpr hd)]
  show some (M.view.loc c) M.view.set ⊢ iprop(some (M.view.loc c) (piece M rB hB sB qB).view.set ∗ some (M.view.loc c) (piece M rC hC sC qC).view.set)
  rw [hs]
  refine some_cut ?_
  rw [piece_set, View.set]; exact Finset.map_subset_map.mpr (Finset.subset_univ _)

theorem room_join (hd : Disjoint rB.set rC.set) (hu : rB.set ∪ rC.set = Finset.univ) :
    iprop(room c (piece M rB hB sB qB) ∗ room c (piece M rC hC sC qC)) ⊢ (room c M : sProp 𝕄) := by
  show iprop(some (M.view.loc c) (piece M rB hB sB qB).view.set ∗ some (M.view.loc c) (piece M rC hC sC qC).view.set) ⊢ some (M.view.loc c) M.view.set
  refine some_join ?_ ?_
  · rw [piece_set, piece_set]; exact (Finset.disjoint_map _).mpr hd
  · rw [piece_set, piece_set, View.set, ← Finset.map_union, hu]

end Cert.Kit
-- ==== Proof.KernelIdeal.Gemm.lean ====
/-
  One blocked product of the kernel: the contraction axis is cut into eight tiles, two in flight at a time, each tile's
  product added to an accumulator. What the loop computes, and the steps of one trip, for any left operand, right operand
  and accumulator.
-/
module

public import proofs.«01_k».proof.Proof.Kit
public import proofs.«01_k».proof.Proof.Gen.KernelIdeal.Skeleton

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Cert.Kit

variable {F : FTy → Type} [FloatOps F]

/-! ## What a product computes -/

/-- Tile `k` of the left operand: columns `1024 k` and on. -/
def tileX (X : S2048x8192.Idx → Elt F .f32) (k : ℕ) : S2048x1024.Idx → Elt F .f32 := fun i =>
  X ((Rect.unit (s := S2048x8192) ![0, 1024 * (k % 8)] S2048x1024.size (by intro a; fin_cases a <;> simp [Shape.size] <;> omega)).emb i)

/-- Tile `k` of the right operand: rows `1024 k` and on. -/
def tileW (W : S8192x1024.Idx → Elt F .f32) (k : ℕ) : S1024x1024.Idx → Elt F .f32 := fun i =>
  W ((Rect.unit (s := S8192x1024) ![1024 * (k % 8), 0] S1024x1024.size (by intro a; fin_cases a <;> simp [Shape.size] <;> omega)).emb i)

/-- The accumulator with one tile's product added. -/
def accStep (A : S2048x1024.Idx → Elt F .f32) (x : S2048x1024.Idx → Elt F .f32) (w : S1024x1024.Idx → Elt F .f32) : S2048x1024.Idx → Elt F .f32 :=
  addf (F := F) A (matmul (F := F) dot_S2048x1024_S1024x1024_S2048x1024_1_0_0_1_n_n none x w (constant S2048x1024 .f32 0x00000000#32))

/-- The accumulator after the first `k` tiles. -/
def accN (X : S2048x8192.Idx → Elt F .f32) (W : S8192x1024.Idx → Elt F .f32) : ℕ → S2048x1024.Idx → Elt F .f32
  | 0 => broadcast S2048x1024 (Scalar.ofBits .f32 0x00000000#32 : F .f32)
  | k + 1 => accStep (accN X W k) (tileX X k) (tileW W k)

/-- The activation, as the kernel writes it. -/
def silu (v : S2048x1024.Idx → Elt F .f32) : S2048x1024.Idx → Elt F .f32 :=
  mulf (F := F) v (divf (F := F) (broadcast S2048x1024 (Scalar.ofBits .f32 0x3F800000#32 : F .f32))
    (addf (F := F) (broadcast S2048x1024 (Scalar.ofBits .f32 0x3F800000#32 : F .f32))
      (exp (F := F) (subf (F := F) (broadcast S2048x1024 (Scalar.ofBits .f32 0x00000000#32 : F .f32)) v))))

/-- One result of the kernel: the activation of the whole product. -/
def prod (X : S2048x8192.Idx → Elt F .f32) (W : S8192x1024.Idx → Elt F .f32) : S2048x1024.Idx → Elt F .f32 := silu (accN X W 8)

/-! ## The payloads -/

theorem pay1_eq (a : Vec F S2048x1024 .f32) (v : Vec F S1x2048x1024 .f32) (w : Vec F S1x1024x1024 .f32) : Gen.k0_pay1 a v w
    = accStep a (shapeCast S2048x1024 v Gen.shapeCasts_S1x2048x1024_S2048x1024) (shapeCast S1024x1024 w Gen.shapeCasts_S1x1024x1024_S1024x1024) := by
  unfold Gen.k0_pay1; exact shapeCast_self _ _

theorem pay2_eq : Gen.k0_pay2 (F := F) = Gen.k0_pay1 := rfl
theorem pay3_eq : Gen.k0_pay3 (F := F) = Gen.k0_pay1 := rfl
theorem pay4_eq : Gen.k0_pay4 (F := F) = Gen.k0_pay1 := rfl
theorem pay5_eq : Gen.k0_pay5 (F := F) = Gen.k0_pay1 := rfl
theorem pay6_eq : Gen.k0_pay6 (F := F) = Gen.k0_pay1 := rfl
theorem pay7_eq : Gen.k0_pay7 (F := F) = Gen.k0_pay1 := rfl
theorem pay8_eq : Gen.k0_pay8 (F := F) = Gen.k0_pay1 := rfl

theorem pay9_eq (X : S2048x8192.Idx → Elt F .f32) (W : S8192x1024.Idx → Elt F .f32) : Gen.k0_pay9 (F := F) = accN X W 0 := by
  unfold Gen.k0_pay9; exact shapeCast_self _ _
theorem pay11_eq : Gen.k0_pay11 (F := F) = Gen.k0_pay9 := rfl
theorem pay13_eq : Gen.k0_pay13 (F := F) = Gen.k0_pay9 := rfl
theorem pay15_eq : Gen.k0_pay15 (F := F) = Gen.k0_pay9 := rfl

theorem pay10_eq (v : Vec F S2048x1024 .f32) : Gen.k0_pay10 v = silu v := by
  unfold Gen.k0_pay10; exact shapeCast_self _ _
theorem pay12_eq : Gen.k0_pay12 (F := F) = Gen.k0_pay10 := rfl
theorem pay14_eq : Gen.k0_pay14 (F := F) = Gen.k0_pay10 := rfl
theorem pay16_eq : Gen.k0_pay16 (F := F) = Gen.k0_pay10 := rfl

/-! ## The steps of a trip -/

section Steps

variable {U : Type} [URA U] (EC : UEmb Counters (MT nD τ sig Unit (Elt F) ℕ U ℕ)) [EC.LandsIn (upEmb : UEmb _ (MT nD τ sig Unit (Elt F) ℕ U ℕ))]

local notation "𝕄" => MT nD τ sig Unit (Elt F) ℕ U ℕ

abbrev 𝒱₀ : Variants := Variants.none

/-- One of the two places of the left operand's tiles, -/
abbrev xslot (a9 : Memref sig .tc .vmem S2x2048x1024 .f32) (o : Fin 3 → ℕ) (ho : ∀ a, o a + S1x2048x1024.size a ≤ S2x2048x1024.size a) :
    Memref sig .tc .vmem S2048x1024 .f32 :=
  (a9.slice (Rect.unit (s := S2x2048x1024) o S1x2048x1024.size ho) (fun _ => rfl)).squeeze S2048x1024 Gen.squeezes_S1x2048x1024_S2048x1024

/-- and of the right operand's. -/
abbrev wslot (a10 : Memref sig .tc .vmem S2x1024x1024 .f32) (o : Fin 3 → ℕ) (ho : ∀ a, o a + S1x1024x1024.size a ≤ S2x1024x1024.size a) :
    Memref sig .tc .vmem S1024x1024 .f32 :=
  (a10.slice (Rect.unit (s := S2x1024x1024) o S1x1024x1024.size ho) (fun _ => rfl)).squeeze S1024x1024 Gen.squeezes_S1x1024x1024_S1024x1024

/-- A pair of places, with what is needed to fill them: the operands at some share, the two semaphores. -/
structure Pair where
  xs : Memref sig .tc .vmem S2048x1024 .f32
  ws : Memref sig .tc .vmem S1024x1024 .f32
  sx : DmaSem sig
  sw : DmaSem sig

variable (c : Dev nD) (xm : Memref sig .tc .hbm S2048x8192 .f32) (wm : Memref sig .tc .hbm S8192x1024 .f32) (qx qw : PosShare TreeShare)
  (X : S2048x8192.Idx → Elt F .f32) (W : S8192x1024.Idx → Elt F .f32) (P : Pair)

/-- Tile `n` of both operands is on its way into the pair of places. -/
def fly (n : ℕ) : sProp 𝕄 :=
  iprop(Flight EC (c : Thread nD τ) (.dma P.sx) () P.xs.view.dmaCredit iprop(holds (c : Thread nD τ) P.xs fullShare (tileX X n) ∗ holds (c : Thread nD τ) xm qx X)
    ∗ Flight EC (c : Thread nD τ) (.dma P.sw) () P.ws.view.dmaCredit iprop(holds (c : Thread nD τ) P.ws fullShare (tileW W n) ∗ holds (c : Thread nD τ) wm qw W))

/-- Nothing is on its way. -/
def idle : sProp 𝕄 :=
  iprop(room (c : Thread nD τ) P.xs ∗ room (c : Thread nD τ) P.ws ∗ semVal ((c : Thread nD τ), SemLoc.dma P.sx) 0 ∗ semVal ((c : Thread nD τ), SemLoc.dma P.sw) 0
    ∗ holds (c : Thread nD τ) xm qx X ∗ holds (c : Thread nD τ) wm qw W)

/-- What a device owes others, whatever it has waited for. -/
def owing (O : CellTallies nD τ sig Unit) : sProp 𝕄 := iprop(∃ V : Waits sig Unit, owes (c : Thread nD τ) O V)

variable {α : Type} {Q : α → sProp (MT nD τ sig Unit (Elt F) ℕ U ℕ)}

theorem read_tileX {o : Fin 2 → ℕ} {ho : ∀ a, o a + S2048x1024.size a ≤ S2048x8192.size a} (k : ℕ) (h : o = ![0, 1024 * (k % 8)]) :
    (fun i => X ((Rect.unit (s := S2048x8192) o S2048x1024.size ho).emb i)) = tileX X k := by
  subst h; rfl

theorem read_tileW {o : Fin 2 → ℕ} {ho : ∀ a, o a + S1024x1024.size a ≤ S8192x1024.size a} (k : ℕ) (h : o = ![1024 * (k % 8), 0]) :
    (fun i => W ((Rect.unit (s := S8192x1024) o S1024x1024.size ho).emb i)) = tileW W k := by
  subst h; rfl

/-- Both tiles of a step are sent for. -/
theorem wp_next (n : ℕ) {o : Fin 2 → ℕ} {ho : ∀ a, o a + S2048x1024.size a ≤ S2048x8192.size a} {hr} {o' : Fin 2 → ℕ}
    {ho' : ∀ a, o' a + S1024x1024.size a ≤ S8192x1024.size a} {hr'} (h : o = ![0, 1024 * (n % 8)]) (h' : o' = ![1024 * (n % 8), 0])
    {e1 e2 e3 e4 e5 e6} {k : PUnit → Prog (TpuEff nD τ sig (Elt F) Λ₀ .tc) α} :
    (idle c xm wm qx qw X W P : sProp 𝕄) ⊢ iprop((fly EC c xm wm qx qw X W P n -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (xm.slice (Rect.unit (s := S2048x8192) o S2048x1024.size ho) hr) (.here P.xs) (.dma P.sx) e1 e2 e3) fun _ =>
         .op (.enqueueDma (wm.slice (Rect.unit (s := S8192x1024) o' S1024x1024.size ho') hr') (.here P.ws) (.dma P.sw) e4 e5 e6) k) Q) := by
  unfold idle fly
  iintro ⟨Hx, Hw, Hsx, Hsw, HX, HW⟩ Hk
  iapply (wp_issue_slice 𝒱₀ (c : Thread nD τ) none EC qx X _ rfl (View.dmaCredit_pos _ (show 0 < S2048x1024.numel by decide)) (tileX X n) (read_tileX X n h)) $$ [HX Hx Hsx]
  · isplitl [HX]; · iexact HX
    isplitl [Hx] <;> iassumption
  iintro Hfx
  iapply (wp_issue_slice 𝒱₀ (c : Thread nD τ) none EC qw W _ rfl (View.dmaCredit_pos _ (show 0 < S1024x1024.numel by decide)) (tileW W n) (read_tileW W n h')) $$ [HW Hw Hsw]
  · isplitl [HW]; · iexact HW
    isplitl [Hw] <;> iassumption
  iintro Hfw
  iapply Hk
  isplitl [Hfx]; · iexact Hfx
  iexact Hfw

/-- Both tiles of a step are sent for, where there is one more; the rest of the program is the same either way. -/
theorem wp_next_if (n : ℕ) {cnd : Prop} [Decidable cnd] {o : Fin 2 → ℕ} {ho : cnd → ∀ a, o a + S2048x1024.size a ≤ S2048x8192.size a} {hr : ∀ h : cnd, _} {o' : Fin 2 → ℕ}
    {ho' : cnd → ∀ a, o' a + S1024x1024.size a ≤ S8192x1024.size a} {hr' : ∀ h : cnd, _} (h : cnd → o = ![0, 1024 * (n % 8)]) (h' : cnd → o' = ![1024 * (n % 8), 0])
    {e1 : ∀ h : cnd, _} {e2 : ∀ h : cnd, _} {e3 : ∀ h : cnd, _} {e4 : ∀ h : cnd, _} {e5 : ∀ h : cnd, _} {e6 : ∀ h : cnd, _} {K : Prog (TpuEff nD τ sig (Elt F) Λ₀ .tc) α} :
    (idle c xm wm qx qw X W P : sProp 𝕄) ⊢ iprop(((if cnd then fly EC c xm wm qx qw X W P n else idle c xm wm qx qw X W P)
        -∗ wp frame (wpE (defs₀ (F := F)) 𝒱₀ (c : Thread nD τ) none) Set.univ K Q)
      -∗ wp frame (wpE (defs₀ (F := F)) 𝒱₀ (c : Thread nD τ) none) Set.univ
        (if hc : cnd then
          (.op (.enqueueDma (xm.slice (Rect.unit (s := S2048x8192) o S2048x1024.size (ho hc)) (hr hc)) (.here P.xs) (.dma P.sx) (e1 hc) (e2 hc) (e3 hc)) fun _ =>
            .op (.enqueueDma (wm.slice (Rect.unit (s := S8192x1024) o' S1024x1024.size (ho' hc)) (hr' hc)) (.here P.ws) (.dma P.sw) (e4 hc) (e5 hc) (e6 hc)) fun _ => K)
          else K) Q) := by
  by_cases hc : cnd
  · simp only [hc, if_true, dite_true]
    exact wp_next EC c xm wm qx qw X W P n (h hc) (h' hc) (k := fun _ => K)
  · simp only [hc, if_false, dite_false]
    iintro H Hk
    iapply Hk
    iexact H

/-- One half of a trip: both tiles are waited for and their product is added to the accumulator. -/
theorem wp_half (n : ℕ) {O : CellTallies nD τ sig Unit} {acc : Memref sig .tc .vmem S2048x1024 .f32} {A : S2048x1024.Idx → Elt F .f32}
    {a9 : Memref sig .tc .vmem S2x2048x1024 .f32} {o9 : Fin 3 → ℕ} {h9 : ∀ a, o9 a + S1x2048x1024.size a ≤ S2x2048x1024.size a}
    {a10 : Memref sig .tc .vmem S2x1024x1024 .f32} {o10 : Fin 3 → ℕ} {h10 : ∀ a, o10 a + S1x1024x1024.size a ≤ S2x1024x1024.size a}
    {sx sw : DmaSem sig} {x0 : Memref sig .tc .hbm S2048x1024 .f32} {w0 : Memref sig .tc .hbm S1024x1024 .f32}
    {off off' off'' : Fin 2 → ℕ} {inb : ∀ a, off a + S2048x1024.size a ≤ S2048x1024.size a} {inb' : ∀ a, off' a + S2048x1024.size a ≤ S2048x1024.size a}
    {inb'' : ∀ a, off'' a + S2048x1024.size a ≤ S2048x1024.size a}
    {e1 e2 e3 e4 e5 e6 e7 e8 e9 e10} {k : PUnit → Prog (TpuEff nD τ sig (Elt F) Λ₀ .tc) α} :
    iprop(fly EC c xm wm qx qw X W ⟨xslot a9 o9 h9, wslot a10 o10 h10, sx, sw⟩ n ∗ holds (c : Thread nD τ) acc fullShare A ∗ owing c O
        ∗ MayWait (c : Thread nD τ) (.dma sx) () O ∗ MayWait (c : Thread nD τ) (.dma sw) () O : sProp 𝕄)
      ⊢ iprop((iprop(idle c xm wm qx qw X W ⟨xslot a9 o9 h9, wslot a10 o10 h10, sx, sw⟩ ∗ holds (c : Thread nD τ) acc fullShare (accStep A (tileX X n) (tileW W n))
            ∗ owing c O) -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 sx x0 (xslot a9 o9 h9) e1 e2) fun _ => .op (.waitDma2 sw w0 (wslot a10 o10 h10) e3 e4) fun _ =>
            .op (.load acc (Rect.unit (s := S2048x1024) off S2048x1024.size inb).toLoadRect e5) fun a =>
            .op (.load a9 (Rect.unit (s := S2x2048x1024) o9 S1x2048x1024.size h9).toLoadRect e6) fun v =>
            .op (.load a10 (Rect.unit (s := S2x1024x1024) o10 S1x1024x1024.size h10).toLoadRect e7) fun w =>
            .op (.load acc (Rect.unit (s := S2048x1024) off' S2048x1024.size inb').toLoadRect e8) fun _ =>
            .op (.store acc (Rect.unit (s := S2048x1024) off'' S2048x1024.size inb'')
              (accStep a (shapeCast S2048x1024 v Gen.shapeCasts_S1x2048x1024_S2048x1024) (shapeCast S1024x1024 w Gen.shapeCasts_S1x1024x1024_S1024x1024))
              Finset.univ e9 e10) k) Q) := by
  unfold fly idle owing
  iintro ⟨⟨Hfx, Hfw⟩, HA, ⟨%V, HO⟩, #Hmx, #Hmw⟩ Hk
  iapply (wp_waitLocalO EC 𝒱₀ (c : Thread nD τ) none () rfl) $$ [Hfx HO]
  · isplitl [Hfx]; · iexact Hfx
    isplitl [HO]; · iexact HO
    iexact Hmx
  iintro ⟨⟨Hx, HX⟩, Hsx, HO⟩
  iapply (wp_waitLocalO EC 𝒱₀ (c : Thread nD τ) none () rfl) $$ [Hfw HO]
  · isplitl [Hfw]; · iexact Hfw
    isplitl [HO]; · iexact HO
    iexact Hmw
  iintro ⟨⟨Hw, HW⟩, Hsw, HO⟩
  iapply (wp_load_all 𝒱₀ (c : Thread nD τ) none) $$ HA
  iintro HA
  iapply (wp_load_slot 𝒱₀ (c : Thread nD τ) none (hq := Gen.squeezes_S1x2048x1024_S2048x1024) Gen.shapeCasts_S1x2048x1024_S2048x1024) $$ Hx
  iintro %v %hv Hx
  iapply (wp_load_slot 𝒱₀ (c : Thread nD τ) none (hq := Gen.squeezes_S1x1024x1024_S1024x1024) Gen.shapeCasts_S1x1024x1024_S1024x1024) $$ Hw
  iintro %w %hw Hw
  iapply (wp_load_all 𝒱₀ (c : Thread nD τ) none) $$ HA
  iintro HA
  rw [hv, hw]
  ihave HA := (room_of_holds (c : Thread nD τ) acc _) $$ HA
  iapply (wp_store_all 𝒱₀ (c : Thread nD τ) none) $$ HA
  iintro HA
  iapply Hk
  isplitr [HA HO]
  · isplitl [Hx]; · iapply (room_of_holds (c : Thread nD τ) _ _) $$ Hx
    isplitl [Hw]; · iapply (room_of_holds (c : Thread nD τ) _ _) $$ Hw
    isplitl [Hsx]; · iexact Hsx
    isplitl [Hsw]; · iexact Hsw
    isplitl [HX] <;> iassumption
  · isplitl [HA]; · iexact HA
    iexists _; iexact HO

/-- The device may wait for the pair's two tiles. -/
def may (O : CellTallies nD τ sig Unit) : sProp 𝕄 :=
  iprop(MayWait (c : Thread nD τ) (.dma P.sx) () O ∗ MayWait (c : Thread nD τ) (.dma P.sw) () O)

instance (O : CellTallies nD τ sig Unit) : BI.Persistent (may c P O : sProp 𝕄) := by unfold may; infer_instance

/-- Before trip `t`: its two tiles are on their way (after the last trip nothing is), and the accumulator holds the tiles before. -/
def loopInv (acc : Memref sig .tc .vmem S2048x1024 .f32) (P₀ P₁ : Pair) (q₀ q₁ r₀ r₁ : PosShare TreeShare) (O : CellTallies nD τ sig Unit) (t : ℕ) : sProp 𝕄 :=
  iprop((if t < 4 then fly EC c xm wm q₀ r₀ X W P₀ (2 * t) else idle c xm wm q₀ r₀ X W P₀)
    ∗ (if t < 4 then fly EC c xm wm q₁ r₁ X W P₁ (2 * t + 1) else idle c xm wm q₁ r₁ X W P₁)
    ∗ holds (c : Thread nD τ) acc fullShare (accN X W (2 * t)) ∗ owing c O ∗ may c P₀ O ∗ may c P₁ O)

/-- In the middle of trip `t`: the first pair of places has been used and sent for again. -/
def midInv (acc : Memref sig .tc .vmem S2048x1024 .f32) (P₀ P₁ : Pair) (q₀ q₁ r₀ r₁ : PosShare TreeShare) (O : CellTallies nD τ sig Unit) (t : ℕ) : sProp 𝕄 :=
  iprop((if t + 1 < 4 then fly EC c xm wm q₀ r₀ X W P₀ (2 * (t + 1)) else idle c xm wm q₀ r₀ X W P₀)
    ∗ fly EC c xm wm q₁ r₁ X W P₁ (2 * t + 1)
    ∗ holds (c : Thread nD τ) acc fullShare (accN X W (2 * t + 1)) ∗ owing c O ∗ may c P₀ O ∗ may c P₁ O)

section Trip

variable {q₀ q₁ r₀ r₁ : PosShare TreeShare} {O : CellTallies nD τ sig Unit} {t : ℕ}
  {acc : Memref sig .tc .vmem S2048x1024 .f32} {a9 : Memref sig .tc .vmem S2x2048x1024 .f32} {a10 : Memref sig .tc .vmem S2x1024x1024 .f32}
  {o9 o10 : Fin 3 → ℕ} {h9 : ∀ a, o9 a + S1x2048x1024.size a ≤ S2x2048x1024.size a} {h10 : ∀ a, o10 a + S1x1024x1024.size a ≤ S2x1024x1024.size a}
  {sx sw : DmaSem sig} {P' : Pair} {x0 : Memref sig .tc .hbm S2048x1024 .f32} {w0 : Memref sig .tc .hbm S1024x1024 .f32}
  {off : Fin 2 → ℕ} {inb : ∀ a, off a + S2048x1024.size a ≤ S2048x1024.size a}
  {cnd : Prop} [Decidable cnd] {nx nw : Fin 2 → ℕ} {nxi : cnd → ∀ a, nx a + S2048x1024.size a ≤ S2048x8192.size a} {nxr : ∀ h : cnd, _}
  {nwi : cnd → ∀ a, nw a + S1024x1024.size a ≤ S8192x1024.size a} {nwr : ∀ h : cnd, _}

/-- The first half of a trip, the rest of the program taking the middle of the trip to the next. -/
theorem wp_trip₀ (ht : t < 4) {v1 v2 v3 v4 l1 l2 l3 l4 l5 l6}
    {e1 : ∀ h : cnd, _} {e2 : ∀ h : cnd, _} {e3 : ∀ h : cnd, _} {e4 : ∀ h : cnd, _} {e5 : ∀ h : cnd, _} {e6 : ∀ h : cnd, _}
    (hc : cnd ↔ t + 1 < 4) (hx : cnd → nx = ![0, 1024 * ((2 * (t + 1)) % 8)]) (hw : cnd → nw = ![1024 * ((2 * (t + 1)) % 8), 0])
    {K : Prog (TpuEff nD τ sig (Elt F) Λ₀ .tc) α}
    (hK : (midInv EC c xm wm X W acc ⟨xslot a9 o9 h9, wslot a10 o10 h10, sx, sw⟩ P' q₀ q₁ r₀ r₁ O t : sProp 𝕄)
      ⊢ wp frame (wpE (defs₀ (F := F)) 𝒱₀ (c : Thread nD τ) none) Set.univ K Q) :
    (loopInv EC c xm wm X W acc ⟨xslot a9 o9 h9, wslot a10 o10 h10, sx, sw⟩ P' q₀ q₁ r₀ r₁ O t : sProp 𝕄)
      ⊢ wp frame (wpE (defs₀ (F := F)) 𝒱₀ (c : Thread nD τ) none) Set.univ
          (.op (.waitDma2 sx x0 (xslot a9 o9 h9) v1 v2) fun _ => .op (.waitDma2 sw w0 (wslot a10 o10 h10) v3 v4) fun _ =>
            .op (.load acc (Rect.unit (s := S2048x1024) off S2048x1024.size inb).toLoadRect l1) fun a =>
            .op (.load a9 (Rect.unit (s := S2x2048x1024) o9 S1x2048x1024.size h9).toLoadRect l2) fun v =>
            .op (.load a10 (Rect.unit (s := S2x1024x1024) o10 S1x1024x1024.size h10).toLoadRect l3) fun w =>
            .op (.load acc (Rect.unit (s := S2048x1024) off S2048x1024.size inb).toLoadRect l4) fun _ =>
            .op (.store acc (Rect.unit (s := S2048x1024) off S2048x1024.size inb)
              (accStep a (shapeCast S2048x1024 v Gen.shapeCasts_S1x2048x1024_S2048x1024) (shapeCast S1024x1024 w Gen.shapeCasts_S1x1024x1024_S1024x1024))
              Finset.univ l5 l6) fun _ =>
          if hc : cnd then
            (.op (.enqueueDma (xm.slice (Rect.unit (s := S2048x8192) nx S2048x1024.size (nxi hc)) (nxr hc)) (.here (xslot a9 o9 h9)) (.dma sx) (e1 hc) (e2 hc) (e3 hc)) fun _ =>
              .op (.enqueueDma (wm.slice (Rect.unit (s := S8192x1024) nw S1024x1024.size (nwi hc)) (nwr hc)) (.here (wslot a10 o10 h10)) (.dma sw) (e4 hc) (e5 hc) (e6 hc)) fun _ => K)
          else K) Q := by
  unfold loopInv
  unfold midInv may at *
  rw [if_pos ht, if_pos ht]
  iintro ⟨H0, H1, HA, HO, ⟨#Hx0, #Hw0⟩, ⟨#Hx1, #Hw1⟩⟩
  iapply (wp_half EC c xm wm q₀ r₀ X W (2 * t)) $$ [H0 HA HO]
  · isplitl [H0]; · iexact H0
    isplitl [HA]; · iexact HA
    isplitl [HO]; · iexact HO
    isplit; · iexact Hx0
    iexact Hw0
  iintro ⟨H0, HA, HO⟩
  iapply (wp_next_if EC c xm wm q₀ r₀ X W _ (2 * (t + 1)) hx hw) $$ H0
  iintro H0
  simp only [hc]
  iapply hK
  isplitl [H0]; · iexact H0
  isplitl [H1]; · iexact H1
  isplitl [HA]; · iexact HA
  isplitl [HO]; · iexact HO
  isplit
  · isplit; · iexact Hx0
    iexact Hw0
  · isplit; · iexact Hx1
    iexact Hw1

/-- The second half of a trip. -/
theorem wp_trip₁ {v1 v2 v3 v4 l1 l2 l3 l4 l5 l6}
    {e1 : ∀ h : cnd, _} {e2 : ∀ h : cnd, _} {e3 : ∀ h : cnd, _} {e4 : ∀ h : cnd, _} {e5 : ∀ h : cnd, _} {e6 : ∀ h : cnd, _}
    (hc : cnd ↔ t + 1 < 4) (hx : cnd → nx = ![0, 1024 * ((2 * (t + 1) + 1) % 8)]) (hw : cnd → nw = ![1024 * ((2 * (t + 1) + 1) % 8), 0])
    {K : Prog (TpuEff nD τ sig (Elt F) Λ₀ .tc) α}
    (hK : (loopInv EC c xm wm X W acc P' ⟨xslot a9 o9 h9, wslot a10 o10 h10, sx, sw⟩ q₀ q₁ r₀ r₁ O (t + 1) : sProp 𝕄)
      ⊢ wp frame (wpE (defs₀ (F := F)) 𝒱₀ (c : Thread nD τ) none) Set.univ K Q) :
    (midInv EC c xm wm X W acc P' ⟨xslot a9 o9 h9, wslot a10 o10 h10, sx, sw⟩ q₀ q₁ r₀ r₁ O t : sProp 𝕄)
      ⊢ wp frame (wpE (defs₀ (F := F)) 𝒱₀ (c : Thread nD τ) none) Set.univ
          (.op (.waitDma2 sx x0 (xslot a9 o9 h9) v1 v2) fun _ => .op (.waitDma2 sw w0 (wslot a10 o10 h10) v3 v4) fun _ =>
            .op (.load acc (Rect.unit (s := S2048x1024) off S2048x1024.size inb).toLoadRect l1) fun a =>
            .op (.load a9 (Rect.unit (s := S2x2048x1024) o9 S1x2048x1024.size h9).toLoadRect l2) fun v =>
            .op (.load a10 (Rect.unit (s := S2x1024x1024) o10 S1x1024x1024.size h10).toLoadRect l3) fun w =>
            .op (.load acc (Rect.unit (s := S2048x1024) off S2048x1024.size inb).toLoadRect l4) fun _ =>
            .op (.store acc (Rect.unit (s := S2048x1024) off S2048x1024.size inb)
              (accStep a (shapeCast S2048x1024 v Gen.shapeCasts_S1x2048x1024_S2048x1024) (shapeCast S1024x1024 w Gen.shapeCasts_S1x1024x1024_S1024x1024))
              Finset.univ l5 l6) fun _ =>
          if hc : cnd then
            (.op (.enqueueDma (xm.slice (Rect.unit (s := S2048x8192) nx S2048x1024.size (nxi hc)) (nxr hc)) (.here (xslot a9 o9 h9)) (.dma sx) (e1 hc) (e2 hc) (e3 hc)) fun _ =>
              .op (.enqueueDma (wm.slice (Rect.unit (s := S8192x1024) nw S1024x1024.size (nwi hc)) (nwr hc)) (.here (wslot a10 o10 h10)) (.dma sw) (e4 hc) (e5 hc) (e6 hc)) fun _ => K)
          else K) Q := by
  unfold midInv
  unfold loopInv may at *
  iintro ⟨H0, H1, HA, HO, ⟨#Hx0, #Hw0⟩, ⟨#Hx1, #Hw1⟩⟩
  iapply (wp_half EC c xm wm q₁ r₁ X W (2 * t + 1)) $$ [H1 HA HO]
  · isplitl [H1]; · iexact H1
    isplitl [HA]; · iexact HA
    isplitl [HO]; · iexact HO
    isplit; · iexact Hx1
    iexact Hw1
  iintro ⟨H1, HA, HO⟩
  iapply (wp_next_if EC c xm wm q₁ r₁ X W _ (2 * (t + 1) + 1) hx hw) $$ H1
  iintro H1
  simp only [hc]
  iapply hK
  isplitl [H0]; · iexact H0
  isplitl [H1]; · iexact H1
  isplitl [HA]; · iexact HA
  isplitl [HO]; · iexact HO
  isplit
  · isplit; · iexact Hx0
    iexact Hw0
  · isplit; · iexact Hx1
    iexact Hw1

end Trip

/-! ## A whole product -/

/-- A pair of places with nothing on its way, its operands apart. -/
def places : sProp 𝕄 :=
  iprop(room (c : Thread nD τ) P.xs ∗ room (c : Thread nD τ) P.ws ∗ semVal ((c : Thread nD τ), SemLoc.dma P.sx) 0 ∗ semVal ((c : Thread nD τ), SemLoc.dma P.sw) 0)

theorem idle_of : iprop(places c P ∗ holds (c : Thread nD τ) xm qx X ∗ holds (c : Thread nD τ) wm qw W) ⊣⊢ (idle c xm wm qx qw X W P : sProp 𝕄) := by
  unfold places idle
  constructor
  · iintro ⟨⟨H1, H2, H3, H4⟩, H5, H6⟩
    isplitl [H1]; · iexact H1
    isplitl [H2]; · iexact H2
    isplitl [H3]; · iexact H3
    isplitl [H4]; · iexact H4
    isplitl [H5] <;> iassumption
  · iintro ⟨H1, H2, H3, H4, H5, H6⟩
    isplitl [H1 H2 H3 H4]
    · isplitl [H1]; · iexact H1
      isplitl [H2]; · iexact H2
      isplitl [H3] <;> iassumption
    · isplitl [H5] <;> iassumption

/-- The program of one product leaves the activation of the product in the accumulator, everything else as it was. -/
theorem wp_gemm {O : CellTallies nD τ sig Unit} {acc : Memref sig .tc .vmem S2048x1024 .f32} {P₀ P₁ : Pair}
    {o₀ : Fin 2 → ℕ} {ho₀ : ∀ a, o₀ a + S2048x1024.size a ≤ S2048x8192.size a} {hr₀} {u₀ : Fin 2 → ℕ} {hu₀ : ∀ a, u₀ a + S1024x1024.size a ≤ S8192x1024.size a} {hs₀}
    {o₁ : Fin 2 → ℕ} {ho₁ : ∀ a, o₁ a + S2048x1024.size a ≤ S2048x8192.size a} {hr₁} {u₁ : Fin 2 → ℕ} {hu₁ : ∀ a, u₁ a + S1024x1024.size a ≤ S8192x1024.size a} {hs₁}
    (hx₀ : o₀ = ![0, 0]) (hw₀ : u₀ = ![0, 0]) (hx₁ : o₁ = ![0, 1024]) (hw₁ : u₁ = ![1024, 0])
    {off : Fin 2 → ℕ} {inb : ∀ a, off a + S2048x1024.size a ≤ S2048x1024.size a} {e1 e2 e3 e4 e5 e6 e7 e8 e9 e10 e11 e12 l1 l2 l3 s1 s2 s3 s4}
    {lb ub st : BitVec 32} {ok : Scf.OK lb ub st} {body : Fin (Scf.trips lb ub st) → Unit → Prog (TpuEff nD τ sig (Elt F) Λ₀ .tc) Unit}
    (htr : Scf.trips lb ub st = 4)
    (hbody : ∀ t u, (loopInv EC c xm wm X W acc P₀ P₁ qx.left qx.right qw.left qw.right O t.val : sProp 𝕄)
      ⊢ wp frame (wpE (defs₀ (F := F)) 𝒱₀ (c : Thread nD τ) none) Set.univ (body t u)
        (fun _ => loopInv EC c xm wm X W acc P₀ P₁ qx.left qx.right qw.left qw.right O (t.val + 1)))
    {k : PUnit → Prog (TpuEff nD τ sig (Elt F) Λ₀ .tc) α} :
    iprop((places c P₀ ∗ places c P₁ ∗ holds (c : Thread nD τ) xm qx X) ∗ holds (c : Thread nD τ) wm qw W ∗ room (c : Thread nD τ) acc ∗ owing c O ∗ may c P₀ O ∗ may c P₁ O : sProp 𝕄)
      ⊢ iprop((iprop((places c P₀ ∗ places c P₁ ∗ holds (c : Thread nD τ) xm qx X) ∗ holds (c : Thread nD τ) wm qw W ∗ holds (c : Thread nD τ) acc fullShare (prod X W) ∗ owing c O)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xm.slice (Rect.unit (s := S2048x8192) o₀ S2048x1024.size ho₀) hr₀) (.here P₀.xs) (.dma P₀.sx) e1 e2 e3) fun _ =>
           .op (.enqueueDma (wm.slice (Rect.unit (s := S8192x1024) u₀ S1024x1024.size hu₀) hs₀) (.here P₀.ws) (.dma P₀.sw) e4 e5 e6) fun _ =>
           .op (.enqueueDma (xm.slice (Rect.unit (s := S2048x8192) o₁ S2048x1024.size ho₁) hr₁) (.here P₁.xs) (.dma P₁.sx) e7 e8 e9) fun _ =>
           .op (.enqueueDma (wm.slice (Rect.unit (s := S8192x1024) u₁ S1024x1024.size hu₁) hs₁) (.here P₁.ws) (.dma P₁.sw) e10 e11 e12) fun _ =>
           .op (.load acc (Rect.unit (s := S2048x1024) off S2048x1024.size inb).toLoadRect l1) fun _ =>
           .op (.store acc (Rect.unit (s := S2048x1024) off S2048x1024.size inb) Gen.k0_pay9 Finset.univ s1 s2) fun _ =>
           Scf.for lb ub st ok ⟨⟩ body >>= fun _ =>
           .op (.load acc (Rect.unit (s := S2048x1024) off S2048x1024.size inb).toLoadRect l2) fun v =>
           .op (.load acc (Rect.unit (s := S2048x1024) off S2048x1024.size inb).toLoadRect l3) fun _ =>
           .op (.store acc (Rect.unit (s := S2048x1024) off S2048x1024.size inb) (Gen.k0_pay10 v) Finset.univ s3 s4) k) Q) := by
  rw [pay9_eq X W]
  iintro ⟨⟨HP0, HP1, HX⟩, HW, HA, HO, #M0, #M1⟩ Hk
  ihave HX := (holds_halves (c : Thread nD τ) xm qx X).1 $$ HX
  icases HX with ⟨HX0, HX1⟩
  ihave HW := (holds_halves (c : Thread nD τ) wm qw W).1 $$ HW
  icases HW with ⟨HW0, HW1⟩
  ihave H0 := (idle_of c xm wm qx.left qw.left X W P₀).1 $$ [HP0 HX0 HW0]
  · isplitl [HP0]; · iexact HP0
    isplitl [HX0] <;> iassumption
  iapply (wp_next EC c xm wm qx.left qw.left X W P₀ (2 * 0) hx₀ hw₀) $$ H0
  iintro H0
  ihave H1 := (idle_of c xm wm qx.right qw.right X W P₁).1 $$ [HP1 HX1 HW1]
  · isplitl [HP1]; · iexact HP1
    isplitl [HX1] <;> iassumption
  iapply (wp_next EC c xm wm qx.right qw.right X W P₁ (2 * 0 + 1) hx₁ hw₁) $$ H1
  iintro H1
  ihave HA := (show (room (c : Thread nD τ) acc : sProp 𝕄) ⊢ iprop(∃ A, holds (c : Thread nD τ) acc fullShare A) from by
    unfold room; iintro ⟨%f, H⟩; iexists _; iapply (Entails.of_eq (holds_of (c : Thread nD τ) acc fullShare f)) $$ H) $$ HA
  icases HA with ⟨%A, HA⟩
  iapply (wp_load_all 𝒱₀ (c : Thread nD τ) none) $$ HA
  iintro HA
  ihave HA := (room_of_holds (c : Thread nD τ) acc _) $$ HA
  iapply (wp_store_all 𝒱₀ (c : Thread nD τ) none) $$ HA
  iintro HA
  iapply (Scf.wp_for_bind _ _ _ _ _ _ _ _ _ (fun t _ => loopInv EC c xm wm X W acc P₀ P₁ qx.left qx.right qw.left qw.right O t) hbody) $$ [H0 H1 HA HO]
  · unfold loopInv
    rw [if_pos (by omega), if_pos (by omega)]
    isplitl [H0]; · iexact H0
    isplitl [H1]; · iexact H1
    isplitl [HA]; · iexact HA
    isplitl [HO]; · iexact HO
    isplit; · iexact M0
    iexact M1
  iintro %_u H
  rw [htr]
  unfold loopInv
  rw [if_neg (by omega), if_neg (by omega)]
  icases H with ⟨H0, H1, HA, HO, -⟩
  ihave H0 := (idle_of c xm wm qx.left qw.left X W P₀).2 $$ H0
  icases H0 with ⟨HP0, HX0, HW0⟩
  ihave H1 := (idle_of c xm wm qx.right qw.right X W P₁).2 $$ H1
  icases H1 with ⟨HP1, HX1, HW1⟩
  iapply (wp_load_all 𝒱₀ (c : Thread nD τ) none) $$ HA
  iintro HA
  iapply (wp_load_all 𝒱₀ (c : Thread nD τ) none) $$ HA
  iintro HA
  ihave HA := (room_of_holds (c : Thread nD τ) acc _) $$ HA
  iapply (wp_store_all 𝒱₀ (c : Thread nD τ) none) $$ HA
  iintro HA
  rw [pay10_eq]
  iapply Hk
  isplitl [HP0 HP1 HX0 HX1]
  · isplitl [HP0]; · iexact HP0
    isplitl [HP1]; · iexact HP1
    iapply (holds_halves (c : Thread nD τ) xm qx X).2
    isplitl [HX0] <;> iassumption
  isplitl [HW0 HW1]
  · iapply (holds_halves (c : Thread nD τ) wm qw W).2
    isplitl [HW0] <;> iassumption
  isplitl [HA]; · iexact HA
  iexact HO

end Steps

end Cert.KernelIdeal.Body

end
-- ==== Proof.KernelIdeal.Loops.lean ====
/-
  The four loops of the kernel: each printed trip is the trip of `Gemm`, over its own right operand and accumulator.
-/
module

public import proofs.«01_k».proof.Proof.KernelIdeal.Gemm

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Cert.Kit

variable {F : FTy → Type} [FloatOps F]
variable {U : Type} [URA U] (EC : UEmb Counters (MT nD τ sig Unit (Elt F) ℕ U ℕ)) [EC.LandsIn (upEmb : UEmb _ (MT nD τ sig Unit (Elt F) ℕ U ℕ))]

local notation "𝕄" => MT nD τ sig Unit (Elt F) ℕ U ℕ

/-- The semaphore of one place of a pair of semaphores. -/
abbrev semAt (a : DmaSems sig S2) (o : Fin 1 → ℕ) (ho : ∀ i, o i + S1.size i ≤ S2.size i) : DmaSem sig :=
  ((a.slice (Rect.unit (s := S2) o S1.size ho)).squeeze S_ Gen.squeezes_S1_S_).sem

/-- The first pair of places, -/
abbrev pair₀ (a9 : Memref sig .tc .vmem S2x2048x1024 .f32) (a10 : Memref sig .tc .vmem S2x1024x1024 .f32) (a11 a12 : DmaSems sig S2) : Pair :=
  ⟨xslot a9 ![0, 0, 0] Gen.inb_S2x2048x1024_S1x2048x1024_0_0_0, wslot a10 ![0, 0, 0] Gen.inb_S2x1024x1024_S1x1024x1024_0_0_0,
    semAt a11 ![0] Gen.inb_S2_S1_0, semAt a12 ![0] Gen.inb_S2_S1_0⟩

/-- and the second. -/
abbrev pair₁ (a9 : Memref sig .tc .vmem S2x2048x1024 .f32) (a10 : Memref sig .tc .vmem S2x1024x1024 .f32) (a11 a12 : DmaSems sig S2) : Pair :=
  ⟨xslot a9 ![1, 0, 0] Gen.inb_S2x2048x1024_S1x2048x1024_1_0_0, wslot a10 ![1, 0, 0] Gen.inb_S2x1024x1024_S1x1024x1024_1_0_0,
    semAt a11 ![1] Gen.inb_S2_S1_1, semAt a12 ![1] Gen.inb_S2_S1_1⟩

/-- One slot of the received right operands. -/
abbrev slot (a3 : Memref sig .tc .hbm S3x8192x1024 .f32) (o : Fin 3 → ℕ) (ho : ∀ a, o a + S1x8192x1024.size a ≤ S3x8192x1024.size a) :
    Memref sig .tc .hbm S8192x1024 .f32 :=
  (a3.slice (Rect.unit (s := S3x8192x1024) o S1x8192x1024.size ho) (fun _ => rfl)).squeeze S8192x1024 Gen.squeezes_S1x8192x1024_S8192x1024

variable
  {arg0 : Memref sig .tc .hbm S2048x8192 .f32} {harg0 : arg0.IsWhole} {arg1 : Memref sig .tc .hbm S8192x1024 .f32} {harg1 : arg1.IsWhole}
  {arg2 : Memref sig .tc .hbm S8192x1024 .f32} {harg2 : arg2.IsWhole} {arg3 : Memref sig .tc .hbm S3x8192x1024 .f32} {harg3 : arg3.IsWhole}
  {arg4 : Memref sig .tc .hbm S2048x1024 .f32} {harg4 : arg4.IsWhole} {arg5 : Memref sig .tc .vmem S2048x1024 .f32} {harg5 : arg5.IsWhole}
  {arg6 : Memref sig .tc .vmem S2048x1024 .f32} {harg6 : arg6.IsWhole} {arg7 : Memref sig .tc .vmem S2048x1024 .f32} {harg7 : arg7.IsWhole}
  {arg8 : Memref sig .tc .vmem S2048x1024 .f32} {harg8 : arg8.IsWhole} {arg9 : Memref sig .tc .vmem S2x2048x1024 .f32} {harg9 : arg9.IsWhole}
  {arg10 : Memref sig .tc .vmem S2x1024x1024 .f32} {harg10 : arg10.IsWhole} {arg11 : DmaSems sig S2} {arg12 : DmaSems sig S2} {arg13 : DmaSems sig S_}
  {arg14 : DmaSems sig S_} {arg15 : DmaSems sig S_} {arg16 : DmaSems sig S_} {arg17 : DmaSems sig S_} {arg18 : DmaSems sig S_}
  {arg19 : DmaSems sig S_} {arg20 : DmaSems sig S_} {arg21 : DmaSems sig S_} {arg22 : DmaSems sig S_} {arg23 : DmaSems sig S_}
  {arg24 : DmaSems sig S_} {arg25 : DmaSems sig S_} {arg26 : DmaSems sig S_} {arg27 : DmaSems sig S_} {arg28 : DmaSems sig S_}
variable (c : Dev nD) (X : S2048x8192.Idx → Elt F .f32) (W : S8192x1024.Idx → Elt F .f32) (q₀ q₁ r₀ r₁ : PosShare TreeShare) (O : CellTallies nD τ sig Unit)

/-- A program that goes on after a case distinction goes on in either case. -/
theorem dite_bind {E : Type → Type _} {α β : Type} {cnd : Prop} [Decidable cnd] (A : cnd → Prog E α) (B : ¬ cnd → Prog E α) (k : α → Prog E β) :
    ((if h : cnd then A h else B h) >>= k) = if h : cnd then A h >>= k else B h >>= k := by
  split <;> rfl

/-- Where the next tiles of trip `t` begin. -/
theorem next_even (t : ℕ) (ht : t + 1 < 4) : 2048 * t + 2048 = 1024 * ((2 * (t + 1)) % 8) := by omega
theorem next_odd (t : ℕ) (ht : t + 1 < 4) : 2048 * t + 3072 = 1024 * ((2 * (t + 1) + 1) % 8) := by omega

/-! There is a next trip, as the kernel asks. -/
theorem cond1 : ∀ t : Fin k0_t1_loop.trips, k0_cond1 t = 1#1 ↔ t.val + 1 < 4 := by decide +kernel
theorem cond2 : ∀ t : Fin k0_t1_loop.trips, k0_cond2 t = 1#1 ↔ t.val + 1 < 4 := by decide +kernel
theorem cond3 : ∀ t : Fin k0_t2_loop.trips, k0_cond3 t = 1#1 ↔ t.val + 1 < 4 := by decide +kernel
theorem cond4 : ∀ t : Fin k0_t2_loop.trips, k0_cond4 t = 1#1 ↔ t.val + 1 < 4 := by decide +kernel
theorem cond5 : ∀ t : Fin k0_t3_loop.trips, k0_cond5 t = 1#1 ↔ t.val + 1 < 4 := by decide +kernel
theorem cond6 : ∀ t : Fin k0_t3_loop.trips, k0_cond6 t = 1#1 ↔ t.val + 1 < 4 := by decide +kernel
theorem cond7 : ∀ t : Fin k0_t4_loop.trips, k0_cond7 t = 1#1 ↔ t.val + 1 < 4 := by decide +kernel
theorem cond8 : ∀ t : Fin k0_t4_loop.trips, k0_cond8 t = 1#1 ↔ t.val + 1 < 4 := by decide +kernel

/-- A trip of the first loop. -/
theorem wp_body1 (d0 : Dev nD) (v2 v6 z0 z1 : BitVec 32) (t : Fin k0_t1_loop.trips) (u : Unit) :
    (loopInv EC c arg0 arg1 X W arg5 (pair₀ arg9 arg10 arg11 arg12) (pair₁ arg9 arg10 arg11 arg12) q₀ q₁ r₀ r₁ O t.val : sProp 𝕄)
      ⊢ wp frame (wpE (defs₀ (F := F)) 𝒱₀ (c : Thread nD τ) none) Set.univ
        (Gen.k0_t1_body arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22 arg23 arg24 arg25 arg26 arg27 arg28 d0 v2 v6 z0 z1 t u)
        (fun _ => loopInv EC c arg0 arg1 X W arg5 (pair₀ arg9 arg10 arg11 arg12) (pair₁ arg9 arg10 arg11 arg12) q₀ q₁ r₀ r₁ O (t.val + 1)) := by
  have ht : t.val < 4 := lt_of_lt_of_le t.isLt Gen.k0_t1_abs.2.1
  simp only [Gen.k0_part2_eq_skeleton, Gen.k0_part2_skel, Gen.k0_part1_eq_skeleton, Gen.k0_part1_skel, Gen.k0_t1_body, pay2_eq, pay1_eq,
    Prog.lift, Prog.bind_op, Prog.bind_ret, Prog.pure_eq_ret, Prog.bind_assoc, dite_bind]
  refine wp_trip₀ EC c arg0 arg1 X W ht (cond1 t) ?_ ?_ (wp_trip₁ EC c arg0 arg1 X W (cond2 t) ?_ ?_ ?_)
  · intro h; rw [Gen.k0_off3_eq, next_even _ ((cond1 t).1 h)]
  · intro h; rw [Gen.k0_off4_eq, next_even _ ((cond1 t).1 h)]
  · intro h; rw [Gen.k0_off5_eq, next_odd _ ((cond2 t).1 h)]
  · intro h; rw [Gen.k0_off6_eq, next_odd _ ((cond2 t).1 h)]
  · rw [wp_ret]; iintro H; imodintro; iexact H

/-- A trip of the second loop. -/
theorem wp_body2 (v4 : BitVec 32) (t : Fin k0_t2_loop.trips) (u : Unit) :
    (loopInv EC c arg0 (slot arg3 ![0, 0, 0] Gen.inb_S3x8192x1024_S1x8192x1024_0_0_0) X W arg6 (pair₀ arg9 arg10 arg11 arg12) (pair₁ arg9 arg10 arg11 arg12) q₀ q₁ r₀ r₁ O t.val : sProp 𝕄)
      ⊢ wp frame (wpE (defs₀ (F := F)) 𝒱₀ (c : Thread nD τ) none) Set.univ
        (Gen.k0_t2_body arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22 arg23 arg24 arg25 arg26 arg27 arg28 v4 t u)
        (fun _ => loopInv EC c arg0 (slot arg3 ![0, 0, 0] Gen.inb_S3x8192x1024_S1x8192x1024_0_0_0) X W arg6 (pair₀ arg9 arg10 arg11 arg12) (pair₁ arg9 arg10 arg11 arg12) q₀ q₁ r₀ r₁ O (t.val + 1)) := by
  have ht : t.val < 4 := lt_of_lt_of_le t.isLt Gen.k0_t2_abs.2.1
  simp only [Gen.k0_part3_eq_skeleton, Gen.k0_part3_skel, Gen.k0_part4_eq_skeleton, Gen.k0_part4_skel, Gen.k0_t2_body, pay3_eq, pay4_eq, pay1_eq,
    Prog.lift, Prog.bind_op, Prog.bind_ret, Prog.pure_eq_ret, Prog.bind_assoc, dite_bind]
  refine wp_trip₀ EC c arg0 (slot arg3 ![0, 0, 0] Gen.inb_S3x8192x1024_S1x8192x1024_0_0_0) X W ht (cond3 t) ?_ ?_ (wp_trip₁ EC c arg0 (slot arg3 ![0, 0, 0] Gen.inb_S3x8192x1024_S1x8192x1024_0_0_0) X W (cond4 t) ?_ ?_ ?_)
  · intro h; rw [Gen.k0_off10_eq, next_even _ ((cond3 t).1 h)]
  · intro h; rw [Gen.k0_off11_eq, next_even _ ((cond3 t).1 h)]
  · intro h; rw [Gen.k0_off12_eq, next_odd _ ((cond4 t).1 h)]
  · intro h; rw [Gen.k0_off13_eq, next_odd _ ((cond4 t).1 h)]
  · rw [wp_ret]; iintro H; imodintro; iexact H

/-- A trip of the third loop. -/
theorem wp_body3 (d0 : Dev nD) (v6 : BitVec 32) (t : Fin k0_t3_loop.trips) (u : Unit) :
    (loopInv EC c arg0 (slot arg3 ![1, 0, 0] Gen.inb_S3x8192x1024_S1x8192x1024_1_0_0) X W arg7 (pair₀ arg9 arg10 arg11 arg12) (pair₁ arg9 arg10 arg11 arg12) q₀ q₁ r₀ r₁ O t.val : sProp 𝕄)
      ⊢ wp frame (wpE (defs₀ (F := F)) 𝒱₀ (c : Thread nD τ) none) Set.univ
        (Gen.k0_t3_body arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22 arg23 arg24 arg25 arg26 arg27 arg28 d0 v6 t u)
        (fun _ => loopInv EC c arg0 (slot arg3 ![1, 0, 0] Gen.inb_S3x8192x1024_S1x8192x1024_1_0_0) X W arg7 (pair₀ arg9 arg10 arg11 arg12) (pair₁ arg9 arg10 arg11 arg12) q₀ q₁ r₀ r₁ O (t.val + 1)) := by
  have ht : t.val < 4 := lt_of_lt_of_le t.isLt Gen.k0_t3_abs.2.1
  simp only [Gen.k0_part5_eq_skeleton, Gen.k0_part5_skel, Gen.k0_part6_eq_skeleton, Gen.k0_part6_skel, Gen.k0_t3_body, pay5_eq, pay6_eq, pay1_eq,
    Prog.lift, Prog.bind_op, Prog.bind_ret, Prog.pure_eq_ret, Prog.bind_assoc, dite_bind]
  refine wp_trip₀ EC c arg0 (slot arg3 ![1, 0, 0] Gen.inb_S3x8192x1024_S1x8192x1024_1_0_0) X W ht (cond5 t) ?_ ?_ (wp_trip₁ EC c arg0 (slot arg3 ![1, 0, 0] Gen.inb_S3x8192x1024_S1x8192x1024_1_0_0) X W (cond6 t) ?_ ?_ ?_)
  · intro h; rw [Gen.k0_off16_eq, next_even _ ((cond5 t).1 h)]
  · intro h; rw [Gen.k0_off17_eq, next_even _ ((cond5 t).1 h)]
  · intro h; rw [Gen.k0_off18_eq, next_odd _ ((cond6 t).1 h)]
  · intro h; rw [Gen.k0_off19_eq, next_odd _ ((cond6 t).1 h)]
  · rw [wp_ret]; iintro H; imodintro; iexact H

/-- A trip of the fourth loop. -/
theorem wp_body4 (d0 : Dev nD) (v4 v8 : BitVec 32) (t : Fin k0_t4_loop.trips) (u : Unit) :
    (loopInv EC c arg0 (slot arg3 ![2, 0, 0] Gen.inb_S3x8192x1024_S1x8192x1024_2_0_0) X W arg8 (pair₀ arg9 arg10 arg11 arg12) (pair₁ arg9 arg10 arg11 arg12) q₀ q₁ r₀ r₁ O t.val : sProp 𝕄)
      ⊢ wp frame (wpE (defs₀ (F := F)) 𝒱₀ (c : Thread nD τ) none) Set.univ
        (Gen.k0_t4_body arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22 arg23 arg24 arg25 arg26 arg27 arg28 d0 v4 v8 t u)
        (fun _ => loopInv EC c arg0 (slot arg3 ![2, 0, 0] Gen.inb_S3x8192x1024_S1x8192x1024_2_0_0) X W arg8 (pair₀ arg9 arg10 arg11 arg12) (pair₁ arg9 arg10 arg11 arg12) q₀ q₁ r₀ r₁ O (t.val + 1)) := by
  have ht : t.val < 4 := lt_of_lt_of_le t.isLt Gen.k0_t4_abs.2.1
  simp only [Gen.k0_part7_eq_skeleton, Gen.k0_part7_skel, Gen.k0_part8_eq_skeleton, Gen.k0_part8_skel, Gen.k0_t4_body, pay7_eq, pay8_eq, pay1_eq,
    Prog.lift, Prog.bind_op, Prog.bind_ret, Prog.pure_eq_ret, Prog.bind_assoc, dite_bind]
  refine wp_trip₀ EC c arg0 (slot arg3 ![2, 0, 0] Gen.inb_S3x8192x1024_S1x8192x1024_2_0_0) X W ht (cond7 t) ?_ ?_ (wp_trip₁ EC c arg0 (slot arg3 ![2, 0, 0] Gen.inb_S3x8192x1024_S1x8192x1024_2_0_0) X W (cond8 t) ?_ ?_ ?_)
  · intro h; rw [Gen.k0_off22_eq, next_even _ ((cond7 t).1 h)]
  · intro h; rw [Gen.k0_off23_eq, next_even _ ((cond7 t).1 h)]
  · intro h; rw [Gen.k0_off24_eq, next_odd _ ((cond8 t).1 h)]
  · intro h; rw [Gen.k0_off25_eq, next_odd _ ((cond8 t).1 h)]
  · rw [wp_ret]; iintro H; imodintro; iexact H

end Cert.KernelIdeal.Body

end
-- ==== Proof.KernelIdeal.Protocol.lean ====
/-
  How the four devices talk. Each device's semaphores that another device touches are named, with who raises each, by
  how much, and what a raise hands over: the room a device opens to its peers through the barrier, and for each of the
  seven transfers the block that lands and the share of the source that comes back. With it the order of the waits
  (levels) and the four steps a device takes: tell a peer it has entered, hear from all peers, put a block, take one.
-/
module

public import proofs.«01_k».proof.Proof.Kit
public import proofs.«01_k».proof.Proof.KernelIdeal.Loops
public import proofs.«01_k».proof.Proof.Gen.KernelIdeal.Launch
public import Idealize.ShloMosaic.Lib.Rounds

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds Cert.Kit

variable {F : FTy → Type} [FloatOps F]

/-! ## The algebra: the pipeline's rounds, the devices' rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) 𝕄 := embL
def ER : Emb UB 𝕄 := (Emb.inl : Emb UB (UB × Counters)).trans (embR : Emb (UB × Counters) 𝕄)
instance ER_landsIn : (ER : Emb UB 𝕄).LandsIn (upEmb : UEmb _ 𝕄) := by unfold ER; infer_instance
abbrev EC : UEmb Counters 𝕄 := countersEmb

/-! ## The ring of devices -/

set_option backward.proofsInPublic true in
def lft (c : Dev nD) : Dev nD := ⟨(c.val + 3) % 4, Nat.mod_lt _ (by decide)⟩
set_option backward.proofsInPublic true in
def rgt (c : Dev nD) : Dev nD := ⟨(c.val + 1) % 4, Nat.mod_lt _ (by decide)⟩
set_option backward.proofsInPublic true in
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_opp (c : Dev nD) : opp (opp c) = c := by revert c; decide
theorem lft_lft (c : Dev nD) : lft (lft c) = opp c := by revert c; decide
theorem rgt_rgt (c : Dev nD) : rgt (rgt c) = opp c := by revert c; decide
theorem opp_lft (c : Dev nD) : opp (lft c) = rgt c := by revert c; decide
theorem opp_rgt (c : Dev nD) : opp (rgt c) = lft c := by revert c; decide

theorem dev1_eq (c : Dev nD) : (⟨k0_dev1 c, Gen.k0_dev1_lt c⟩ : Dev nD) = lft c := Fin.ext (Gen.k0_dev1_eq c)
theorem dev2_eq (c : Dev nD) : (⟨k0_dev2 c, Gen.k0_dev2_lt c⟩ : Dev nD) = rgt c := Fin.ext (Gen.k0_dev2_eq c)
theorem dev3_eq (c : Dev nD) : (⟨k0_dev3 c, Gen.k0_dev3_lt c⟩ : Dev nD) = opp c := Fin.ext (Gen.k0_dev3_eq c)
theorem dev4_eq (c : Dev nD) : (⟨k0_dev4 c, Gen.k0_dev4_lt c⟩ : Dev nD) = rgt c := Fin.ext (Gen.k0_dev4_eq c)
theorem dev5_eq (c : Dev nD) : (⟨k0_dev5 c, Gen.k0_dev5_lt c⟩ : Dev nD) = lft c := Fin.ext (Gen.k0_dev5_eq c)
theorem dev6_eq (c : Dev nD) : (⟨k0_dev6 c, Gen.k0_dev6_lt c⟩ : Dev nD) = rgt c := Fin.ext (Gen.k0_dev6_eq c)
theorem dev7_eq (c : Dev nD) : (⟨k0_dev7 c, Gen.k0_dev7_lt c⟩ : Dev nD) = lft c := Fin.ext (Gen.k0_dev7_eq c)
theorem dev8_eq (c : Dev nD) : (⟨k0_dev8 c, Gen.k0_dev8_lt c⟩ : Dev nD) = lft c := Fin.ext (Gen.k0_dev8_eq c)
theorem dev9_eq (c : Dev nD) : (⟨k0_dev9 c, Gen.k0_dev9_lt c⟩ : Dev nD) = rgt c := Fin.ext (Gen.k0_dev9_eq c)
theorem dev10_eq (c : Dev nD) : (⟨k0_dev10 c, Gen.k0_dev10_lt c⟩ : Dev nD) = opp c := Fin.ext (Gen.k0_dev10_eq c)

/-! ## The transfers and the cells -/

/-- The seven transfers a device sends: its right operand whole to either neighbour (`r0`, `l0`), a half of what came
    from a neighbour on to the other one (`r1`, `l1`), and a finished block of the result to each peer. -/
inductive Tr | r0 | l0 | r1 | l1 | yl | yr | yd
  deriving DecidableEq

instance : Fintype Tr := ⟨⟨([.r0, .l0, .r1, .l1, .yl, .yr, .yd] : List Tr), by decide⟩, fun t => by cases t <;> decide⟩

/-- The cells other devices touch, or await: the barrier; for each transfer the cell its landing raises and the cell its departure raises. -/
inductive Cell | bar | got (t : Tr) | sent (t : Tr)
  deriving DecidableEq

def Cell.all : List Cell := [.bar, .got .r0, .got .l0, .got .r1, .got .l1, .got .yl, .got .yr, .got .yd,
  .sent .r0, .sent .l0, .sent .r1, .sent .l1, .sent .yl, .sent .yr, .sent .yd]

theorem Cell.all_nodup : Cell.all.Nodup := by decide

instance : Fintype Cell := ⟨⟨Cell.all, Cell.all_nodup⟩, fun k => by rcases k with _ | t | t <;> (try cases t) <;> decide⟩

abbrev barS : Sem sig := (SemArray.scalar (sig.barrier 0 rfl) : Sems sig S_).sem

/-- The semaphore of a cell. -/
abbrev csem : Cell → SemLoc sig
  | .bar => .reg barS
  | .sent .r0 => .dma cc0_scratch10.sem | .got .r0 => .dma cc0_scratch11.sem
  | .sent .l0 => .dma cc0_scratch12.sem | .got .l0 => .dma cc0_scratch13.sem
  | .sent .r1 => .dma cc0_scratch14.sem | .got .r1 => .dma cc0_scratch15.sem
  | .sent .l1 => .dma cc0_scratch16.sem | .got .l1 => .dma cc0_scratch17.sem
  | .sent .yl => .dma cc0_scratch18.sem | .got .yl => .dma cc0_scratch19.sem
  | .sent .yr => .dma cc0_scratch20.sem | .got .yr => .dma cc0_scratch21.sem
  | .sent .yd => .dma cc0_scratch22.sem | .got .yd => .dma cc0_scratch23.sem

/-- The cell `k` of device `c`. -/
def cell (c : Dev nD) (k : Cell) : GSem nD τ sig := ((c : Thread nD τ), csem k)

/-- Which cell a semaphore is, if any. -/
def idx (s : SemLoc sig) : Option Cell := Cell.all.find? fun k => decide (csem k = s)

theorem idx_csem (k : Cell) : idx (csem k) = some k := by
  rcases k with _ | t | t <;> (try cases t) <;> decide

theorem csem_inj {k k' : Cell} (h : csem k = csem k') : k = k' :=
  Option.some.inj ((idx_csem k).symm.trans ((congrArg idx h).trans (idx_csem k')))

theorem cell_inj {c c' : Dev nD} {k k' : Cell} : cell c k = cell c' k' ↔ c = c' ∧ k = k' :=
  ⟨fun h => ⟨Fin.ext (congrArg (fun g : GSem nD τ sig => g.1.1.val) h), csem_inj (congrArg Prod.snd h)⟩, fun h => by rw [h.1, h.2]⟩

/-- The credit of a transfer. -/
def size : Tr → ℕ
  | .r0 | .l0 => (Memref.whole main_arg1 : Memref sig .tc .hbm S8192x1024 .f32).view.ref.dmaCredit S8192x1024 .f32
  | .r1 | .l1 => (Memref.whole main_v1_1 : Memref sig .tc .hbm S3x8192x1024 .f32).view.ref.dmaCredit S4096x1024 .f32
  | .yl | .yr | .yd => (Memref.whole main_v1_0 : Memref sig .tc .hbm S8192x1024 .f32).view.ref.dmaCredit S2048x1024 .f32

/-- The units one raise of a cell gives. -/
def amt : Cell → ℕ
  | .bar => 1
  | .got t | .sent t => size t

theorem amt_pos (k : Cell) : 0 < amt k := by
  rcases k with _ | t | t <;> (try cases t) <;> decide

/-! ## The memrefs and what they hold -/

abbrev xM : Memref sig .tc .hbm S2048x8192 .f32 := Memref.whole main_arg0
abbrev wM : Memref sig .tc .hbm S8192x1024 .f32 := Memref.whole main_arg1
abbrev oM : Memref sig .tc .hbm S8192x1024 .f32 := Memref.whole main_v1_0
abbrev sM : Memref sig .tc .hbm S3x8192x1024 .f32 := Memref.whole main_v1_1
abbrev dM : Memref sig .tc .hbm S2048x1024 .f32 := Memref.whole main_v1_2
abbrev a5M : Memref sig .tc .vmem S2048x1024 .f32 := Memref.whole cc0_scratch0
abbrev a6M : Memref sig .tc .vmem S2048x1024 .f32 := Memref.whole cc0_scratch1
abbrev a7M : Memref sig .tc .vmem S2048x1024 .f32 := Memref.whole cc0_scratch2
abbrev a8M : Memref sig .tc .vmem S2048x1024 .f32 := Memref.whole cc0_scratch3
abbrev xtM : Memref sig .tc .vmem S2x2048x1024 .f32 := Memref.whole cc0_scratch4
abbrev wtM : Memref sig .tc .vmem S2x1024x1024 .f32 := Memref.whole cc0_scratch5

/-- The three slots of the received right operands. -/
abbrev slot0 := slot sM ![0, 0, 0] Gen.inb_S3x8192x1024_S1x8192x1024_0_0_0
abbrev slot1 := slot sM ![1, 0, 0] Gen.inb_S3x8192x1024_S1x8192x1024_1_0_0
abbrev slot2 := slot sM ![2, 0, 0] Gen.inb_S3x8192x1024_S1x8192x1024_2_0_0

/-- Half a slot. -/
abbrev half (o : Fin 3 → ℕ) (ho : ∀ a, o a + S1x4096x1024.size a ≤ S3x8192x1024.size a) : Memref sig .tc .hbm S4096x1024 .f32 :=
  (sM.slice (Rect.unit (s := S3x8192x1024) o S1x4096x1024.size ho) (fun _ => rfl)).squeeze S4096x1024 Gen.squeezes_S1x4096x1024_S4096x1024

abbrev slot0lo := half ![0, 0, 0] Gen.inb_S3x8192x1024_S1x4096x1024_0_0_0
abbrev slot1hi := half ![1, 4096, 0] Gen.inb_S3x8192x1024_S1x4096x1024_1_4096_0
abbrev slot2lo := half ![2, 0, 0] Gen.inb_S3x8192x1024_S1x4096x1024_2_0_0
abbrev slot2hi := half ![2, 4096, 0] Gen.inb_S3x8192x1024_S1x4096x1024_2_4096_0

/-- The block of rows of the result that device `d` computes. -/
abbrev oBlk (d : Dev nD) : Memref sig .tc .hbm S2048x1024 .f32 :=
  oM.slice (Rect.unit (s := S8192x1024) (k0_off7 d) S2048x1024.size (Gen.k0_off7_inb d)) (fun _ => rfl)

/-- The upper and lower half of a right operand, by rows. -/
def lo (W : S8192x1024.Idx → Elt F .f32) : S4096x1024.Idx → Elt F .f32 := fun i =>
  W ((Rect.unit (s := S8192x1024) ![0, 0] S4096x1024.size (by decide)).emb i)
def hi (W : S8192x1024.Idx → Elt F .f32) : S4096x1024.Idx → Elt F .f32 := fun i =>
  W ((Rect.unit (s := S8192x1024) ![4096, 0] S4096x1024.size (by decide)).emb i)

variable (m : (ℓ : Loc nD τ sig) → Buf (Elt F) ℓ) (ρ : Dev nD → PrngReg)

/-- Device `c`'s two operands at launch. -/
def xOf (c : Dev nD) : S2048x8192.Idx → Elt F .f32 := m ((c : Thread nD τ).loc main_arg0)
def wOf (c : Dev nD) : S8192x1024.Idx → Elt F .f32 := m ((c : Thread nD τ).loc main_arg1)

/-- The block device `d` computes for device `c`: its own rows against `c`'s columns. -/
def yOf (d c : Dev nD) : S2048x1024.Idx → Elt F .f32 := prod (xOf m d) (wOf m c)

/-! ## The schedule -/

/-- What a raise of cell `k` of device `c` hands over (the barrier has three raises: from the right, from the left, from across). -/
def pay : Cell → Dev nD → Fin 3 → sProp 𝕄
  | .bar, c, 0 => iprop(room (rgt c : Thread nD τ) slot0 ∗ room (rgt c : Thread nD τ) slot2lo ∗ room (rgt c : Thread nD τ) (oBlk c))
  | .bar, c, 1 => iprop(room (lft c : Thread nD τ) slot1 ∗ room (lft c : Thread nD τ) slot2hi ∗ room (lft c : Thread nD τ) (oBlk c))
  | .bar, c, 2 => room (opp c : Thread nD τ) (oBlk c)
  | .got .r0, c, _ => holds (c : Thread nD τ) slot0 fullShare (wOf m (lft c))
  | .got .l0, c, _ => holds (c : Thread nD τ) slot1 fullShare (wOf m (rgt c))
  | .got .r1, c, _ => holds (c : Thread nD τ) slot2lo fullShare (lo (wOf m (opp c)))
  | .got .l1, c, _ => holds (c : Thread nD τ) slot2hi fullShare (hi (wOf m (opp c)))
  | .got .yl, c, _ => holds (c : Thread nD τ) (oBlk (rgt c)) fullShare (yOf m (rgt c) c)
  | .got .yr, c, _ => holds (c : Thread nD τ) (oBlk (lft c)) fullShare (yOf m (lft c) c)
  | .got .yd, c, _ => holds (c : Thread nD τ) (oBlk (opp c)) fullShare (yOf m (opp c) c)
  | .sent .r0, c, _ => holds (c : Thread nD τ) wM fullShare.left.left (wOf m c)
  | .sent .l0, c, _ => holds (c : Thread nD τ) wM fullShare.left.right (wOf m c)
  | .sent .r1, c, _ => holds (c : Thread nD τ) slot0lo fullShare.left (lo (wOf m (lft c)))
  | .sent .l1, c, _ => holds (c : Thread nD τ) slot1hi fullShare.left (hi (wOf m (rgt c)))
  | .sent .yl, c, _ => holds (c : Thread nD τ) a6M fullShare (yOf m c (lft c))
  | .sent .yr, c, _ => holds (c : Thread nD τ) a7M fullShare (yOf m c (rgt c))
  | .sent .yd, c, _ => holds (c : Thread nD τ) dM fullShare (yOf m c (opp c))

instance pay_storable (k : Cell) (c : Dev nD) (d : Fin 3) : BI.Storable (upEmb : UEmb _ 𝕄) (pay m k c d) := by
  rcases k with _ | t | t
  · match d with
    | 0 => unfold pay; infer_instance
    | 1 => unfold pay; infer_instance
    | 2 => unfold pay; infer_instance
  all_goals cases t <;> (unfold pay; infer_instance)

/-- The duties of a cell: the barrier has one for each peer, every other cell a single one. -/
def dut : Option Cell → Finset (Fin 3)
  | some .bar => Finset.univ
  | some _ => {0}
  | none => ∅
def amtO : Option Cell → ℕ
  | some k => amt k
  | none => 1
def payO : Option Cell → Dev nD → Fin 3 → sProp 𝕄
  | some k => pay m k
  | none => fun _ _ => iprop(emp)

/-- Every cell has the one round 0. -/
def Rd : Schedule (GSem nD τ sig) (Fin 3) 𝕄 where
  duties g r := if r = 0 ∧ g.1.2 = .tc then dut (idx g.2) else ∅
  unitless _ := False
  amount g _ _ := amtO (idx g.2)
  payload g _ d := payO m (idx g.2) g.1.1 d
  amount_pos g _ _ _ := by
    cases h : idx g.2 with
    | none => exact Nat.one_pos
    | some k => exact amt_pos k

instance Rd_payload_storable (g : GSem nD τ sig) (r : ℕ) (d : Fin 3) : BI.Storable (upEmb : UEmb _ 𝕄) ((Rd m).payload g r d) := by
  show BI.Storable upEmb (payO m (idx g.2) g.1.1 d)
  cases idx g.2 with
  | none => unfold payO; infer_instance
  | some k => unfold payO; infer_instance

section Sched
variable (c : Dev nD)

theorem duties_cell (k : Cell) : (Rd (F := F) m).duties (cell c k) 0 = dut (some k) := by
  dsimp only [Rd, cell]; rw [if_pos ⟨rfl, rfl⟩, idx_csem]
theorem duties_later (g : GSem nD τ sig) : ∀ r, 1 ≤ r → (Rd (F := F) m).duties g r = ∅ :=
  fun r hr => by dsimp only [Rd]; rw [if_neg fun h => by omega]
theorem amount_cell (k : Cell) (d : Fin 3) : (Rd (F := F) m).amount (cell c k) 0 d = amt k := by
  dsimp only [Rd, cell]; rw [idx_csem]; rfl
theorem payload_cell (k : Cell) (d : Fin 3) : (Rd (F := F) m).payload (cell c k) 0 d = pay m k c d := by
  dsimp only [Rd, cell]; rw [idx_csem]; rfl
theorem zero_mem (k : Cell) : (0 : Fin 3) ∈ dut (some k) := by cases k <;> first | exact Finset.mem_univ _ | exact Finset.mem_singleton_self _
theorem mem_bar (d : Fin 3) : d ∈ dut (some .bar) := Finset.mem_univ d

theorem expect_cell (k : Cell) (hk : k ≠ .bar) : (Rd (F := F) m).expect (cell c k) 0 = amt k := by
  unfold Schedule.expect Schedule.amountOf
  rw [duties_cell, show dut (some k) = {0} by cases k <;> first | exact absurd rfl hk | rfl, Finset.sum_singleton, amount_cell]
theorem expect_bar : (Rd (F := F) m).expect (cell c .bar) 0 = 3 := by
  unfold Schedule.expect Schedule.amountOf
  rw [duties_cell, Finset.sum_congr rfl fun d _ => amount_cell m c .bar d]; decide

theorem rest_cell (k : Cell) (hk : k ≠ .bar) :
    bigSep ((Rd (F := F) m).duties (cell c k) 0 \ ∅) (fun d => (Rd (F := F) m).payload (cell c k) 0 d) = pay m k c 0 := by
  rw [Finset.sdiff_empty, duties_cell, show dut (some k) = {0} by cases k <;> first | exact absurd rfl hk | rfl, bigSep_singleton, payload_cell]
theorem rest_bar :
    bigSep ((Rd (F := F) m).duties (cell c .bar) 0 \ ∅) (fun d => (Rd (F := F) m).payload (cell c .bar) 0 d)
      = iprop(pay m .bar c 0 ∗ pay m .bar c 1 ∗ pay m .bar c 2) := by
  rw [Finset.sdiff_empty, duties_cell, show dut (some .bar) = Finset.univ from rfl, bigSep_univ_eq_bigSepL [0, 1, 2] (by decide) (by decide),
    bigSepL_cons_cons, bigSepL_cons_cons, bigSepL_singleton, payload_cell, payload_cell, payload_cell]
  rfl

end Sched

/-! ## What a device owes, and the levels -/

/-- What is owed for a list of raises still to come, the next one first. -/
def owed : List (Dev nD × Cell) → CellTallies nD τ sig Unit
  | [] => 0
  | p :: l => owed l + tallyAt (cell p.1 p.2) () (amt p.2)

theorem owed_pos : ∀ {l : List (Dev nD × Cell)} {g : GSem nD τ sig} {u : Unit}, 0 < owed l g u → ∃ p ∈ l, g = cell p.1 p.2
  | [], g, u, h => absurd h (Nat.lt_irrefl 0)
  | p :: l, g, u, h => by
    unfold owed at h
    rw [Pi.add_apply, Finsupp.add_apply, tallyAt_apply] at h
    by_cases hg : g = cell p.1 p.2
    · exact ⟨p, List.mem_cons_self, hg⟩
    · rw [if_neg (fun h' => hg h'.1), Nat.add_zero] at h
      obtain ⟨q, hq, hgq⟩ := owed_pos h
      exact ⟨q, List.mem_cons_of_mem _ hq, hgq⟩

/-- The raises a device makes of its peers' cells, in program order. -/
def dues (c : Dev nD) : List (Dev nD × Cell) :=
  [(lft c, .bar), (rgt c, .bar), (opp c, .bar), (rgt c, .got .r0), (lft c, .got .l0), (rgt c, .got .r1), (lft c, .got .l1),
    (lft c, .got .yl), (rgt c, .got .yr), (opp c, .got .yd)]

def lev : Cell → ℕ
  | .bar => 1
  | .got .r0 | .got .l0 => 2
  | .got .r1 | .got .l1 => 3
  | .got _ => 4
  | .sent _ => 0

def levO : Option Cell → ℕ
  | some k => lev k
  | none => 0

def L (g : GSem nD τ sig) : Finset Unit := if g.1.2 = .tc then {()} else ∅
/-- Local semaphores and departures lowest, then the barrier, the operands' landings, the halves' landings, the results' landings. -/
def lv (g : GSem nD τ sig) (_ : Unit) : ℕ := levO (idx g.2)

theorem L_of_ne (g : GSem nD τ sig) (h : g.1.2 ≠ .tc) : L g = ∅ := if_neg h
theorem L_tc (c : Dev nD) (s : SemLoc sig) : L ((c : Thread nD τ), s) = {()} := if_pos rfl

/-- A device may wait on a semaphore below everything it still owes. -/
theorem may_wait (c : Dev nD) (s : SemLoc sig) (l : List (Dev nD × Cell)) (h : ∀ p ∈ l, levO (idx s) < lev p.2) :
    (levAts L lv : sProp 𝕄) ⊢ MayWait (c : Thread nD τ) s () (owed l) :=
  MayOwe.of_cut (L := L) (lev := lv) (levO (idx s)) (fun p hp => by rw [Finset.mem_singleton.mp hp, L_tc]; exact Finset.mem_singleton_self _)
    (fun g u hg => by obtain ⟨p, _, rfl⟩ := owed_pos hg; exact Finset.mem_singleton_self _)
    (fun p hp => by rw [Finset.mem_singleton.mp hp]; exact le_rfl)
    (fun g u hg => by
      obtain ⟨p, hp, rfl⟩ := owed_pos hg
      show levO (idx s) < levO (idx (csem p.2))
      rw [idx_csem]; exact h p hp)

/-! ## The shared records, and the steps -/

/-- Every cell of every device is watched (under the names `K`) and has begun. -/
def records (K : Dev nD × Cell → ℕ) : sProp 𝕄 :=
  iprop((bigSep Finset.univ fun p : Dev nD × Cell => cellInv ER (Rd m) (K p) (cell p.1 p.2))
    ∗ bigSep Finset.univ fun p : Dev nD × Cell => reached ER (cell p.1 p.2) 0)

instance records_persistent (K : Dev nD × Cell → ℕ) : BI.Persistent (records m K) := by unfold records; infer_instance

theorem records_inv (K : Dev nD × Cell → ℕ) (c : Dev nD) (k : Cell) : records m K ⊢ cellInv ER (Rd m) (K (c, k)) (cell c k) :=
  sep_elim_left.trans (bigSep_elim (Φ := fun p : Dev nD × Cell => (cellInv ER (Rd m) (K p) (cell p.1 p.2) : sProp 𝕄)) (Finset.mem_univ (c, k)))
theorem records_reached (K : Dev nD × Cell → ℕ) (c : Dev nD) (k : Cell) : records m K ⊢ reached ER (cell c k) 0 :=
  sep_elim_right.trans (bigSep_elim (Φ := fun p : Dev nD × Cell => (reached ER (cell p.1 p.2) 0 : sProp 𝕄)) (Finset.mem_univ (c, k)))

section Steps

variable (K : Dev nD × Cell → ℕ) {c : Dev nD} {α : Type} {Q : α → sProp (MT nD τ sig Unit (Elt F) ℕ UU ℕ)}

/-- A device tells a peer that it has entered, opening to it the room the peer writes. -/
theorem wp_tell {n d : Dev nD} (hn : n = d) (j : Fin 3) {l : List (Dev nD × Cell)} {a : ℕ} (ha : a = 1)
    {k : PUnit → Prog (TpuEff nD τ sig (Elt F) Λ₀ .tc) α} :
    iprop(records m K ∗ owing c (owed ((d, .bar) :: l)) ∗ dutyTok ER (cell d .bar) 0 j ∗ pay m .bar d j)
      ⊢ iprop((owing c (owed l) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS a) k) Q) := by
  subst hn ha
  unfold owing
  iintro ⟨#HR, ⟨%W, HO⟩, Htok, Hpay⟩ Hk
  have hd : j ∈ (Rd m).duties ((n : Thread nD τ), SemLoc.reg barS) 0 := by
    rw [show ((n : Thread nD τ), SemLoc.reg barS) = cell n .bar from rfl, duties_cell]; exact mem_bar j
  iapply (Rounds.wp_signal 𝒱₀ ER (Rd m) (c : Thread nD τ) none (dst := (n : Thread nD τ)) (κ := K (n, .bar)) (d := j) hd
    (amount_cell m n .bar j) () (owed l) rfl) $$ [HO Htok Hpay]
  · isplitr; · iapply (records_inv m K n .bar) $$ HR
    isplitl [HO]; · iexact HO
    isplitl [Htok]; · iexact Htok
    isplitl [Hpay]; · iapply (show pay m .bar n j ⊢ (Rd m).payload ((n : Thread nD τ), SemLoc.reg barS) 0 j from Entails.of_eq (payload_cell m n .bar j).symm) $$ Hpay
    iapply (records_reached m K n .bar) $$ HR
  iintro HO
  iapply Hk
  iexists W; iexact HO

/-- A device hears from its three peers: it owns the room they opened to it, and its barrier is done. -/
theorem wp_hear {l : List (Dev nD × Cell)} {a : ℕ} (ha : a = 3) (hl : ∀ p ∈ l, 1 < lev p.2)
    {k : PUnit → Prog (TpuEff nD τ sig (Elt F) Λ₀ .tc) α} :
    iprop(records m K ∗ levAts L lv ∗ owing c (owed l) ∗ cred (tallyAt (cell c .bar) () 3) ∗ atPos ER (cell c .bar) 0 ∅ 0)
      ⊢ iprop((iprop(owing c (owed l) ∗ (pay m .bar c 0 ∗ pay m .bar c 1 ∗ pay m .bar c 2) ∗ semVal (cell c .bar) 0)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS a) k) Q) := by
  subst ha
  unfold owing
  iintro ⟨#HR, #HL, ⟨%W, HO⟩, Hcr, Hat⟩ Hk
  have he : 0 + 3 = (Rd m).expect ((c : Thread nD τ), SemLoc.reg barS) 0 := (expect_bar m c).symm
  iapply (Rounds.wp_wait_rest_token 𝒱₀ ER (Rd m) (c : Thread nD τ) none (κ := K (c, .bar)) (wpE_semWait_eq 𝒱₀ (c : Thread nD τ) none Set.univ) (Set.mem_univ _)
    () (O := owed l) (W := W) (R := 0) (m := 0) (T := ∅) he) $$ [HO Hcr Hat]
  · isplitr; · iapply (records_inv m K c .bar) $$ HR
    isplitl [Hcr]; · iexact Hcr
    isplitl [HO]; · iexact HO
    isplitr; · iapply (may_wait c (.reg barS) l (fun p hp => by rw [show SemLoc.reg barS = csem .bar from rfl, idx_csem]; exact hl p hp)) $$ HL
    iexact Hat
  rw [show ((c : Thread nD τ), SemLoc.reg barS) = cell c .bar from rfl]
  iintro ⟨HO, Hat, -, Hpay⟩
  imod (Rounds.cell_close ER (Rd m) (Set.mem_univ (K (c, .bar))) (fun h => h) (R := 0 + 1) (duties_later m (cell c .bar))) $$ [Hat] with Hz
  · isplitr; · iapply (records_inv m K c .bar) $$ HR
    iexact Hat
  iapply Hk
  isplitl [HO]; · iexists _; iexact HO
  isplitl [Hpay]; · iapply (Entails.of_eq (rest_bar m c)) $$ Hpay
  iexact Hz

/-- A device takes what one of its cells delivers, and the cell is done. -/
theorem wp_take (i : Cell) (hi : i ≠ .bar) {l : List (Dev nD × Cell)} (hl : ∀ p ∈ l, lev i < lev p.2) {ss : DmaSem sig} (hs : csem i = .dma ss)
    {sp sp' : Space} {s s' : Shape} {e e' : EltTy} {src : Memref sig .tc sp' s' e'} {dst : Memref sig .tc sp s e} {hsrc : src.view.WordExact} {hdst : dst.view.WordExact}
    (hN : dst.view.dmaCredit = amt i)
    {k : PUnit → Prog (TpuEff nD τ sig (Elt F) Λ₀ .tc) α} :
    iprop(records m K ∗ levAts L lv ∗ owing c (owed l) ∗ cred (tallyAt (cell c i) () (amt i)) ∗ atPos ER (cell c i) 0 ∅ 0)
      ⊢ iprop((iprop(owing c (owed l) ∗ pay m i c 0 ∗ semVal (cell c i) 0)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 ss src dst hsrc hdst) k) Q) := by
  have hc : cell c i = ((c : Thread nD τ), SemLoc.dma ss) := by unfold cell; rw [hs]
  unfold owing
  iintro ⟨#HR, #HL, ⟨%W, HO⟩, Hcr, Hat⟩ Hk
  have he : 0 + dst.view.dmaCredit = (Rd m).expect ((c : Thread nD τ), SemLoc.dma ss) 0 := by
    rw [← hc, expect_cell m c i hi, Nat.zero_add]; exact hN
  have hw : ∀ p ∈ l, levO (idx (.dma ss)) < lev p.2 := by rw [← hs, idx_csem]; exact hl
  iapply (Rounds.wp_wait_rest_token 𝒱₀ ER (Rd m) (c : Thread nD τ) none (κ := K (c, i)) (wpE_waitDma2_eq 𝒱₀ (c : Thread nD τ) none Set.univ) (Set.mem_univ _)
    () (O := owed l) (W := W) (R := 0) (m := 0) (T := ∅) he) $$ [HO Hcr Hat]
  · rw [← hc, hN]
    isplitr; · iapply (records_inv m K c i) $$ HR
    isplitl [Hcr]; · iexact Hcr
    isplitl [HO]; · iexact HO
    isplitr; · iapply (may_wait c (.dma ss) l hw) $$ HL
    iexact Hat
  rw [← hc]
  iintro ⟨HO, Hat, -, Hpay⟩
  imod (Rounds.cell_close ER (Rd m) (Set.mem_univ (K (c, i))) (fun h => h) (R := 0 + 1) (duties_later m (cell c i))) $$ [Hat] with Hz
  · isplitr; · iapply (records_inv m K c i) $$ HR
    iexact Hat
  iapply Hk
  isplitl [HO]; · iexists _; iexact HO
  isplitl [Hpay]; · iapply (Entails.of_eq (rest_cell m c i hi)) $$ Hpay
  iexact Hz

/-- A device puts a block on a peer, into room the peer opened to it. -/
theorem wp_put (t : Tr) {n d : Dev nD} (hn : n = d) {l : List (Dev nD × Cell)} {ss rs : DmaSem sig}
    (hs : csem (.sent t) = .dma ss) (hr : csem (.got t) = .dma rs)
    {sp sp' : Space} {s : Shape} {src : Memref sig .tc sp s .f32} {dst : Memref sig (Dev.tc n : Thread nD τ).2.kind sp' s .f32} {hsc : dst.view.ref.isScScratch = false}
    {hsrc : src.view.WordExact} {hdst : dst.view.WordExact} {hsem : DmaTarget.Typed sp (.dma rs) (.remote (Dev.tc n : Thread nD τ) dst (.dma ss) hsc)}
    (hN : dst.view.dmaCredit = size t) (q : PosShare TreeShare) (x : s.Idx → Elt F .f32)
    (hps : pay m (.sent t) c 0 = holds (c : Thread nD τ) src q x)
    (hpr : pay m (.got t) d 0 = holds (d : Thread nD τ) dst fullShare x)
    {k : PUnit → Prog (TpuEff nD τ sig (Elt F) Λ₀ .tc) α} :
    iprop(records m K ∗ owing c (owed ((d, .got t) :: l)) ∗ dutyTok ER (cell c (.sent t)) 0 0 ∗ dutyTok ER (cell d (.got t)) 0 0
        ∗ holds (c : Thread nD τ) src q x ∗ room (d : Thread nD τ) dst)
      ⊢ iprop((iprop(owing c (owed l) ∗ cred (tallyAt (cell c (.sent t)) () (amt (.sent t))))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma ss) hsc) (.dma rs) hsrc hdst hsem) k) Q) := by
  subst hn
  have h₁ : cell c (.sent t) = ((c : Thread nD τ), SemLoc.dma ss) := by unfold cell; rw [hs]
  have h₂ : cell n (.got t) = ((n : Thread nD τ), SemLoc.dma rs) := by unfold cell; rw [hr]
  unfold owing room
  iintro ⟨#HR, ⟨%W, HO⟩, Ht₁, Ht₂, Hsrc, ⟨%fd, Hdst⟩⟩ Hk
  have hd₁ : (0 : Fin 3) ∈ (Rd m).duties ((c : Thread nD τ), SemLoc.dma ss) 0 := by rw [← h₁, duties_cell]; exact zero_mem _
  have hd₂ : (0 : Fin 3) ∈ (Rd m).duties ((n : Thread nD τ), SemLoc.dma rs) 0 := by rw [← h₂, duties_cell]; exact zero_mem _
  have hk₁ : (Rd m).amount ((c : Thread nD τ), SemLoc.dma ss) 0 0 = size t := by rw [← h₁, amount_cell]; rfl
  have hk₂ : (Rd m).amount ((n : Thread nD τ), SemLoc.dma rs) 0 0 = size t := by rw [← h₂, amount_cell]; rfl
  have hO : owed ((n, .got t) :: l) = owed l + tallyAt ((n : Thread nD τ), SemLoc.dma rs) () (size t) := by rw [← h₂]; rfl
  have hp₁ : (src.view.loc (c : Thread nD τ) ↦[src.view.set]{q} src.view.rep x) ⊢ (Rd m).payload ((c : Thread nD τ), SemLoc.dma ss) 0 0 := by
    rw [← h₁, payload_cell, hps]; unfold holds; exact BIBase.Entails.refl
  have hp₂ : (dst.view.loc (n : Thread nD τ) ↦[dst.view.set]{fullShare} (dst.view.write (Elt F) fd (src.view.read (Elt F) (src.view.rep x)) Finset.univ))
      ⊢ (Rd m).payload ((n : Thread nD τ), SemLoc.dma rs) 0 0 := by
    rw [← h₂, payload_cell, hpr]
    refine (Entails.of_eq (holds_of_write (n : Thread nD τ) dst fd (src.view.read (Elt F) (src.view.rep x)))).trans (Entails.of_eq ?_)
    rw [View.read_rep]
  iapply (Rounds.wp_send_pointsTo 𝒱₀ ER (Rd m) (c : Thread nD τ) none (κ₁ := K (c, .sent t)) (κ₂ := K (n, .got t)) (r₁ := 0) (r₂ := 0) (d₁ := 0) (d₂ := 0)
    (q := q) (fs := src.view.rep x) (fd := fd)
    hd₁ hd₂ () () (size t) ((View.amount_dma dst.view rs).trans hN) hk₁ hk₂ (owed l) hO (W := W) hp₁ hp₂) $$ [HO Ht₁ Ht₂ Hsrc Hdst]
  · rw [← h₁, ← h₂]
    isplitr; · iapply (records_inv m K c (.sent t)) $$ HR
    isplitr; · iapply (records_inv m K n (.got t)) $$ HR
    isplitl [Hsrc]; · unfold holds; iexact Hsrc
    isplitl [Hdst]; · iexact Hdst
    isplitl [HO]; · iexact HO
    isplitl [Ht₁]; · iexact Ht₁
    isplitr; · iapply (records_reached m K c (.sent t)) $$ HR
    isplitl [Ht₂]; · iexact Ht₂
    iapply (records_reached m K n (.got t)) $$ HR
  rw [← h₁]
  iintro ⟨Hcr, HO⟩
  iapply Hk
  isplitl [HO]; · iexists W; iexact HO
  iexact Hcr

end Steps

end Cert.KernelIdeal.Body

end
-- ==== Proof.KernelIdeal.Memory.lean ====
/-
  The kernel's buffers and the pieces of them it works with: the scratch tiles' two places, the slots of received right
  operands and their halves, and the result's four blocks of rows.
-/
module

public import proofs.«01_k».proof.Proof.Pieces
public import proofs.«01_k».proof.Proof.KernelIdeal.Protocol

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds Cert.Kit

variable {F : FTy → Type} [FloatOps F]

local notation "𝕄" => MT nD τ sig Unit (Elt F) ℕ UU ℕ

variable (c : Dev nD)

/-! ## The places of the tiles -/

theorem xt_disj : Disjoint (Rect.unit (s := S2x2048x1024) ![0, 0, 0] S1x2048x1024.size Gen.inb_S2x2048x1024_S1x2048x1024_0_0_0).set
    (Rect.unit (s := S2x2048x1024) ![1, 0, 0] S1x2048x1024.size Gen.inb_S2x2048x1024_S1x2048x1024_1_0_0).set := Rect.unit_disjoint 0 (by decide)
theorem wt_disj : Disjoint (Rect.unit (s := S2x1024x1024) ![0, 0, 0] S1x1024x1024.size Gen.inb_S2x1024x1024_S1x1024x1024_0_0_0).set
    (Rect.unit (s := S2x1024x1024) ![1, 0, 0] S1x1024x1024.size Gen.inb_S2x1024x1024_S1x1024x1024_1_0_0).set := Rect.unit_disjoint 0 (by decide)
theorem xt_all : (Rect.unit (s := S2x2048x1024) ![0, 0, 0] S1x2048x1024.size Gen.inb_S2x2048x1024_S1x2048x1024_0_0_0).set
    ∪ (Rect.unit (s := S2x2048x1024) ![1, 0, 0] S1x2048x1024.size Gen.inb_S2x2048x1024_S1x2048x1024_1_0_0).set = Finset.univ := by
  ext i
  have h0 : (i 0).val < 2 := (i 0).isLt
  have h1 : (i 1).val < 2048 := (i 1).isLt
  have h2 : (i 2).val < 1024 := (i 2).isLt
  simp only [Finset.mem_union, Rect.mem_set_unit, Fin.forall_fin_succ, Finset.mem_univ, iff_true]
  simp [Fin.forall_fin_succ]
  omega
theorem wt_all : (Rect.unit (s := S2x1024x1024) ![0, 0, 0] S1x1024x1024.size Gen.inb_S2x1024x1024_S1x1024x1024_0_0_0).set
    ∪ (Rect.unit (s := S2x1024x1024) ![1, 0, 0] S1x1024x1024.size Gen.inb_S2x1024x1024_S1x1024x1024_1_0_0).set = Finset.univ := by
  ext i
  have h0 : (i 0).val < 2 := (i 0).isLt
  have h1 : (i 1).val < 1024 := (i 1).isLt
  have h2 : (i 2).val < 1024 := (i 2).isLt
  simp only [Finset.mem_union, Rect.mem_set_unit, Fin.forall_fin_succ, Finset.mem_univ, iff_true]
  simp [Fin.forall_fin_succ]
  omega

abbrev P₀ : Pair := pair₀ xtM wtM cc0_scratch6 cc0_scratch7
abbrev P₁ : Pair := pair₁ xtM wtM cc0_scratch6 cc0_scratch7

theorem xt_cut : (room (c : Thread nD τ) xtM : sProp 𝕄) ⊢ iprop(room (c : Thread nD τ) P₀.xs ∗ room (c : Thread nD τ) P₁.xs) :=
  room_cut (c : Thread nD τ) xtM (qB := Gen.squeezes_S1x2048x1024_S2048x1024) (qC := Gen.squeezes_S1x2048x1024_S2048x1024) xt_disj xt_all
theorem xt_join : iprop(room (c : Thread nD τ) P₀.xs ∗ room (c : Thread nD τ) P₁.xs) ⊢ (room (c : Thread nD τ) xtM : sProp 𝕄) :=
  room_join (c : Thread nD τ) xtM (qB := Gen.squeezes_S1x2048x1024_S2048x1024) (qC := Gen.squeezes_S1x2048x1024_S2048x1024) xt_disj xt_all
theorem wt_cut : (room (c : Thread nD τ) wtM : sProp 𝕄) ⊢ iprop(room (c : Thread nD τ) P₀.ws ∗ room (c : Thread nD τ) P₁.ws) :=
  room_cut (c : Thread nD τ) wtM (qB := Gen.squeezes_S1x1024x1024_S1024x1024) (qC := Gen.squeezes_S1x1024x1024_S1024x1024) wt_disj wt_all
theorem wt_join : iprop(room (c : Thread nD τ) P₀.ws ∗ room (c : Thread nD τ) P₁.ws) ⊢ (room (c : Thread nD τ) wtM : sProp 𝕄) :=
  room_join (c : Thread nD τ) wtM (qB := Gen.squeezes_S1x1024x1024_S1024x1024) (qC := Gen.squeezes_S1x1024x1024_S1024x1024) wt_disj wt_all

/-! ## The slots -/

/-- The first two slots and the halves of the third, out of the buffer of slots. -/
theorem slots_cut : (room (c : Thread nD τ) sM : sProp 𝕄)
    ⊢ iprop(room (c : Thread nD τ) slot0 ∗ room (c : Thread nD τ) slot1 ∗ room (c : Thread nD τ) slot2lo ∗ room (c : Thread nD τ) slot2hi) := by
  have e0 := piece_set sM (Rect.unit (s := S3x8192x1024) ![0, 0, 0] S1x8192x1024.size Gen.inb_S3x8192x1024_S1x8192x1024_0_0_0) (fun _ => rfl) S8192x1024 Gen.squeezes_S1x8192x1024_S8192x1024
  have e1 := piece_set sM (Rect.unit (s := S3x8192x1024) ![1, 0, 0] S1x8192x1024.size Gen.inb_S3x8192x1024_S1x8192x1024_1_0_0) (fun _ => rfl) S8192x1024 Gen.squeezes_S1x8192x1024_S8192x1024
  have e2 := piece_set sM (Rect.unit (s := S3x8192x1024) ![2, 0, 0] S1x4096x1024.size Gen.inb_S3x8192x1024_S1x4096x1024_2_0_0) (fun _ => rfl) S4096x1024 Gen.squeezes_S1x4096x1024_S4096x1024
  have e3 := piece_set sM (Rect.unit (s := S3x8192x1024) ![2, 4096, 0] S1x4096x1024.size Gen.inb_S3x8192x1024_S1x4096x1024_2_4096_0) (fun _ => rfl) S4096x1024 Gen.squeezes_S1x4096x1024_S4096x1024
  have d10 : Disjoint ((Rect.unit (s := S3x8192x1024) ![1, 0, 0] S1x8192x1024.size Gen.inb_S3x8192x1024_S1x8192x1024_1_0_0).set.map sM.view.emb) ((Rect.unit (s := S3x8192x1024) ![0, 0, 0] S1x8192x1024.size Gen.inb_S3x8192x1024_S1x8192x1024_0_0_0).set.map sM.view.emb) :=
    (Finset.disjoint_map _).mpr (Rect.unit_disjoint 0 (by decide))
  have d20 : Disjoint ((Rect.unit (s := S3x8192x1024) ![2, 0, 0] S1x4096x1024.size Gen.inb_S3x8192x1024_S1x4096x1024_2_0_0).set.map sM.view.emb) ((Rect.unit (s := S3x8192x1024) ![0, 0, 0] S1x8192x1024.size Gen.inb_S3x8192x1024_S1x8192x1024_0_0_0).set.map sM.view.emb) :=
    (Finset.disjoint_map _).mpr (Rect.unit_disjoint 0 (by decide))
  have d21 : Disjoint ((Rect.unit (s := S3x8192x1024) ![2, 0, 0] S1x4096x1024.size Gen.inb_S3x8192x1024_S1x4096x1024_2_0_0).set.map sM.view.emb) ((Rect.unit (s := S3x8192x1024) ![1, 0, 0] S1x8192x1024.size Gen.inb_S3x8192x1024_S1x8192x1024_1_0_0).set.map sM.view.emb) :=
    (Finset.disjoint_map _).mpr (Rect.unit_disjoint 0 (by decide))
  have d30 : Disjoint ((Rect.unit (s := S3x8192x1024) ![2, 4096, 0] S1x4096x1024.size Gen.inb_S3x8192x1024_S1x4096x1024_2_4096_0).set.map sM.view.emb) ((Rect.unit (s := S3x8192x1024) ![0, 0, 0] S1x8192x1024.size Gen.inb_S3x8192x1024_S1x8192x1024_0_0_0).set.map sM.view.emb) :=
    (Finset.disjoint_map _).mpr (Rect.unit_disjoint 0 (by decide))
  have d31 : Disjoint ((Rect.unit (s := S3x8192x1024) ![2, 4096, 0] S1x4096x1024.size Gen.inb_S3x8192x1024_S1x4096x1024_2_4096_0).set.map sM.view.emb) ((Rect.unit (s := S3x8192x1024) ![1, 0, 0] S1x8192x1024.size Gen.inb_S3x8192x1024_S1x8192x1024_1_0_0).set.map sM.view.emb) :=
    (Finset.disjoint_map _).mpr (Rect.unit_disjoint 0 (by decide))
  have d32 : Disjoint ((Rect.unit (s := S3x8192x1024) ![2, 4096, 0] S1x4096x1024.size Gen.inb_S3x8192x1024_S1x4096x1024_2_4096_0).set.map sM.view.emb) ((Rect.unit (s := S3x8192x1024) ![2, 0, 0] S1x4096x1024.size Gen.inb_S3x8192x1024_S1x4096x1024_2_0_0).set.map sM.view.emb) :=
    (Finset.disjoint_map _).mpr (Rect.unit_disjoint 1 (by decide))
  show some (sM.view.loc (c : Thread nD τ)) sM.view.set ⊢ iprop(some (sM.view.loc (c : Thread nD τ)) slot0.view.set ∗ some (sM.view.loc (c : Thread nD τ)) slot1.view.set
    ∗ some (sM.view.loc (c : Thread nD τ)) slot2lo.view.set ∗ some (sM.view.loc (c : Thread nD τ)) slot2hi.view.set)
  rw [e0, e1, e2, e3, show sM.view.set = Finset.univ from View.set_whole _]
  iintro H
  ihave H := (some_cut (Finset.subset_univ _)) $$ H
  icases H with ⟨H0, H⟩
  isplitl [H0]; · iexact H0
  ihave H := (some_cut (Finset.subset_sdiff.2 ⟨Finset.subset_univ _, d10⟩)) $$ H
  icases H with ⟨H1, H⟩
  isplitl [H1]; · iexact H1
  ihave H := (some_cut (Finset.subset_sdiff.2 ⟨Finset.subset_sdiff.2 ⟨Finset.subset_univ _, d20⟩, d21⟩)) $$ H
  icases H with ⟨H2, H⟩
  isplitl [H2]; · iexact H2
  ihave H := (some_cut (Finset.subset_sdiff.2 ⟨Finset.subset_sdiff.2 ⟨Finset.subset_sdiff.2 ⟨Finset.subset_univ _, d30⟩, d31⟩, d32⟩)) $$ H
  icases H with ⟨H3, -⟩
  iexact H3

/-- An index of half a slot, within the slot. -/
theorem half_emb (a b : ℕ) (hA : ∀ x, (![a, 0, 0] : Fin 3 → ℕ) x + S1x8192x1024.size x ≤ S3x8192x1024.size x)
    (hB : ∀ x, (![a, b, 0] : Fin 3 → ℕ) x + S1x4096x1024.size x ≤ S3x8192x1024.size x)
    (hb : ∀ x, (![b, 0] : Fin 2 → ℕ) x + S4096x1024.size x ≤ S8192x1024.size x) (j : S4096x1024.Idx) :
    (Rect.unit (s := S3x8192x1024) ![a, b, 0] S1x4096x1024.size hB).emb (Shape.reshapeEquiv Gen.squeezes_S1x4096x1024_S4096x1024.numel_eq j)
      = (Rect.unit (s := S3x8192x1024) ![a, 0, 0] S1x8192x1024.size hA).emb (Shape.reshapeEquiv Gen.squeezes_S1x8192x1024_S8192x1024.numel_eq
          ((Rect.unit (s := S8192x1024) ![b, 0] S4096x1024.size hb).emb j)) := by
  rw [show Shape.reshapeEquiv Gen.squeezes_S1x4096x1024_S4096x1024.numel_eq j = _ from Shape.reshapeEquiv_cons_one (d := ![4096, 1024]) _ j,
    show Shape.reshapeEquiv Gen.squeezes_S1x8192x1024_S8192x1024.numel_eq ((Rect.unit (s := S8192x1024) ![b, 0] S4096x1024.size hb).emb j) = _ from
      Shape.reshapeEquiv_cons_one (d := ![8192, 1024]) _ _]
  funext x
  refine Fin.ext ?_
  match x with
  | 0 => rfl
  | 1 => show b + 1 * (j 0).val = 0 + 1 * (b + 1 * (j 0).val); omega
  | 2 => show 0 + 1 * (j 1).val = 0 + 1 * (0 + 1 * (j 1).val); omega

theorem half_sub (a b : ℕ) (hA : ∀ x, (![a, 0, 0] : Fin 3 → ℕ) x + S1x8192x1024.size x ≤ S3x8192x1024.size x)
    (hB : ∀ x, (![a, b, 0] : Fin 3 → ℕ) x + S1x4096x1024.size x ≤ S3x8192x1024.size x) (hb : b + 4096 ≤ 8192) :
    (Rect.unit (s := S3x8192x1024) ![a, b, 0] S1x4096x1024.size hB).set ⊆ (Rect.unit (s := S3x8192x1024) ![a, 0, 0] S1x8192x1024.size hA).set := by
  intro i hi
  rw [Rect.mem_set_unit] at hi ⊢
  intro x
  have hx := hi x
  have hlt := (i x).isLt
  match x, hx, hlt with
  | 0, hx, hlt => exact hx
  | 1, hx, hlt => exact ⟨Nat.zero_le _, by show (i 1).val < 0 + 8192; have : (i 1).val < 8192 := hlt; omega⟩
  | 2, hx, hlt => exact hx

theorem slot0_lo (q : PosShare TreeShare) (W : S8192x1024.Idx → Elt F .f32) :
    (holds (c : Thread nD τ) slot0 q W : sProp 𝕄) ⊢ holds (c : Thread nD τ) slot0lo q (lo W) :=
  holds_within (c : Thread nD τ) sM _ (half_emb 0 0 _ _ (by decide)) (half_sub 0 0 _ _ (by decide)) q W
theorem slot1_hi (q : PosShare TreeShare) (W : S8192x1024.Idx → Elt F .f32) :
    (holds (c : Thread nD τ) slot1 q W : sProp 𝕄) ⊢ holds (c : Thread nD τ) slot1hi q (hi W) :=
  holds_within (c : Thread nD τ) sM _ (half_emb 1 4096 _ _ (by decide)) (half_sub 1 4096 _ _ (by decide)) q W

theorem slot2_join (q : PosShare TreeShare) (W : S8192x1024.Idx → Elt F .f32) :
    iprop(holds (c : Thread nD τ) slot2lo q (lo W) ∗ holds (c : Thread nD τ) slot2hi q (hi W)) ⊢ (holds (c : Thread nD τ) slot2 q W : sProp 𝕄) := by
  refine holds_join (c : Thread nD τ) sM _ _ (half_emb 2 0 _ _ (by decide)) (half_emb 2 4096 _ _ (by decide)) (Rect.unit_disjoint 1 (by decide)) ?_ q W
  refine Finset.Subset.antisymm (fun i hi => ?_) (Finset.union_subset (half_sub 2 0 _ _ (by decide)) (half_sub 2 4096 _ _ (by decide)))
  rw [Finset.mem_union, Rect.mem_set_unit, Rect.mem_set_unit]
  rw [Rect.mem_set_unit] at hi
  have h0 := hi 0; have h1 := hi 1; have h2 := hi 2
  simp [Fin.forall_fin_succ] at h0 h1 h2 ⊢
  omega

/-! ## The result's blocks -/

theorem blk_set (d : Dev nD) : (oBlk d).view.set = (Rect.unit (s := S8192x1024) (k0_off7 d) S2048x1024.size (Gen.k0_off7_inb d)).set :=
  View.set_slice_whole _ _

theorem mem_blk (d : Dev nD) (i : S8192x1024.Idx) : i ∈ (show Finset S8192x1024.Idx from (oBlk d).view.set) ↔ (i 0).val / 2048 = d.val := by
  have h1 : (i 1).val < 1024 := (i 1).isLt
  rw [blk_set, Rect.mem_set_unit, Gen.k0_off7_eq]
  simp only [Fin.forall_fin_succ]
  simp
  omega

theorem ring_all (c : Dev nD) : (Finset.univ : Finset (Dev nD)) = [c, rgt c, lft c, opp c].toFinset := by revert c; decide
theorem ring_nodup (c : Dev nD) : [c, rgt c, lft c, opp c].Nodup := by revert c; decide

/-- The result buffer is the blocks its own device and the three others compute. -/
theorem out_blocks (f : Buf (Elt F) ((c : Thread nD τ).loc main_v1_0)) :
    ((c : Thread nD τ).loc main_v1_0 ↦{fullShare} f : sProp 𝕄)
      = iprop(((c : Thread nD τ).loc main_v1_0 ↦[(oBlk c).view.set]{fullShare} f) ∗ ((c : Thread nD τ).loc main_v1_0 ↦[(oBlk (rgt c)).view.set]{fullShare} f)
        ∗ ((c : Thread nD τ).loc main_v1_0 ↦[(oBlk (lft c)).view.set]{fullShare} f) ∗ ((c : Thread nD τ).loc main_v1_0 ↦[(oBlk (opp c)).view.set]{fullShare} f)) := by
  have h : ∀ d ∈ (Finset.univ : Finset (Dev nD)), ∀ d' ∈ (Finset.univ : Finset (Dev nD)), d ≠ d' → Disjoint (oBlk d).view.set (oBlk d').view.set :=
    fun d _ d' _ hd => Finset.disjoint_left.2 fun i hi hi' => hd (Fin.ext (((mem_blk d i).1 hi).symm.trans ((mem_blk d' i).1 hi')))
  have hu : (Finset.univ : Finset (Dev nD)).biUnion (fun d => show Finset S8192x1024.Idx from (oBlk d).view.set) = Finset.univ := by
    ext i
    refine ⟨fun _ => Finset.mem_univ _, fun _ => ?_⟩
    have h0 : (i 0).val < 8192 := (i 0).isLt
    exact Finset.mem_biUnion.2 ⟨⟨(i 0).val / 2048, by show (i 0).val / 2048 < 4; omega⟩, Finset.mem_univ _, (mem_blk _ i).2 rfl⟩
  have := pointsTo_biUnion (ℓ := (c : Thread nD τ).loc main_v1_0) (q := fullShare) (f := f) (Ix := Unit) (Name := ℕ) (U := UU) (Lvl := ℕ) Finset.univ (fun d : Dev nD => (show Finset S8192x1024.Idx from (oBlk d).view.set)) h
  rw [hu] at this
  refine this.trans ?_
  rw [bigSep_univ_eq_bigSepL [c, rgt c, lft c, opp c] (ring_all c) (ring_nodup c), bigSepL_cons_cons, bigSepL_cons_cons, bigSepL_cons_cons, bigSepL_singleton]
  rfl

variable (m : (ℓ : Loc nD τ sig) → Buf (Elt F) ℓ)

/-- What device `c`'s result holds in the end. -/
def outOf : S8192x1024.Idx → Elt F .f32 := fun i =>
  yOf m ⟨(i 0).val / 2048, by have : (i 0).val < 8192 := (i 0).isLt; show (i 0).val / 2048 < 4; omega⟩ c
    (fun a => match a with | 0 => ⟨(i 0).val % 2048, Nat.mod_lt _ (by decide)⟩ | 1 => i 1)

theorem outOf_blk (d : Dev nD) (j : S2048x1024.Idx) :
    outOf c m ((Rect.unit (s := S8192x1024) (k0_off7 d) S2048x1024.size (Gen.k0_off7_inb d)).emb j) = yOf m d c j := by
  have h0 : (j 0).val < 2048 := (j 0).isLt
  have hr : ((Rect.unit (s := S8192x1024) (k0_off7 d) S2048x1024.size (Gen.k0_off7_inb d)).emb j 0).val = 2048 * d.val + (j 0).val := by
    show k0_off7 d 0 + 1 * (j 0).val = _
    rw [Gen.k0_off7_eq]; show 2048 * d.val + 1 * (j 0).val = _; omega
  have hc : ((Rect.unit (s := S8192x1024) (k0_off7 d) S2048x1024.size (Gen.k0_off7_inb d)).emb j 1).val = (j 1).val := by
    show k0_off7 d 1 + 1 * (j 1).val = _
    rw [Gen.k0_off7_eq]; show 0 + 1 * (j 1).val = _; omega
  unfold outOf
  refine congr (congrFun (congrArg _ (Fin.ext ?_)) c) (funext fun a => Fin.ext ?_)
  · show _ / 2048 = d.val
    rw [hr]; omega
  · match a with
    | 0 => show _ % 2048 = (j 0).val; rw [hr]; omega
    | 1 => exact hc

/-- The four blocks in place are the whole result. -/
theorem out_join :
    iprop(holds (c : Thread nD τ) (oBlk c) fullShare (yOf m c c) ∗ holds (c : Thread nD τ) (oBlk (rgt c)) fullShare (yOf m (rgt c) c)
        ∗ holds (c : Thread nD τ) (oBlk (lft c)) fullShare (yOf m (lft c) c) ∗ holds (c : Thread nD τ) (oBlk (opp c)) fullShare (yOf m (opp c) c))
      ⊢ ((c : Thread nD τ).loc main_v1_0 ↦{fullShare} outOf c m : sProp 𝕄) := by
  have h : ∀ d : Dev nD, ((c : Thread nD τ).loc main_v1_0 ↦[(oBlk d).view.set]{fullShare} outOf c m : sProp 𝕄)
      = holds (c : Thread nD τ) (oBlk d) fullShare (yOf m d c) := fun d => by
    refine (holds_of (c : Thread nD τ) (oBlk d) fullShare _).trans (congrArg _ (funext fun j => ?_))
    exact outOf_blk c m d j
  rw [out_blocks, h, h, h, h]

/-- Room for the four blocks. -/
theorem out_cut : (room (c : Thread nD τ) oM : sProp 𝕄)
    ⊢ iprop(room (c : Thread nD τ) (oBlk c) ∗ room (c : Thread nD τ) (oBlk (rgt c)) ∗ room (c : Thread nD τ) (oBlk (lft c)) ∗ room (c : Thread nD τ) (oBlk (opp c))) := by
  rw [← room_whole]
  iintro ⟨%f, H⟩
  ihave H := (BIBase.Entails.of_eq (out_blocks c f)) $$ H
  icases H with ⟨H0, H1, H2, H3⟩
  unfold room
  isplitl [H0]; · iexists f; iexact H0
  isplitl [H1]; · iexists f; iexact H1
  isplitl [H2]; · iexists f; iexact H2
  iexists f; iexact H3

end Cert.KernelIdeal.Body
-- ==== Proof.KernelIdeal.Body.lean ====
/-
  One device's run of the kernel, step by step: it tells its peers it has entered and hears from them, sends its right
  operand both ways, multiplies by its own operand, then by each one that arrives while passing halves of them on,
  sends the finished blocks home, and waits for everything it was sent and everything it sent.
-/
module

public import proofs.«01_k».proof.Proof.KernelIdeal.Memory

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds Cert.Kit

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- Whom a transfer goes to. -/
def peer : Tr → Dev nD → Dev nD
  | .r0 | .r1 | .yr => rgt
  | .l0 | .l1 | .yl => lft
  | .yd => opp

theorem bigSep_tr (Φ : Tr → sProp 𝕄) : bigSep Finset.univ Φ = iprop(Φ .r0 ∗ Φ .l0 ∗ Φ .r1 ∗ Φ .l1 ∗ Φ .yl ∗ Φ .yr ∗ Φ .yd) :=
  bigSep_univ_eq_bigSepL ([Tr.r0, Tr.l0, Tr.r1, Tr.l1, Tr.yl, Tr.yr, Tr.yd] : List Tr) (by decide) (by decide) Φ
theorem bigSep_cells (Φ : Cell → sProp 𝕄) : bigSep Finset.univ Φ = iprop(Φ .bar ∗ Φ (.got .r0) ∗ Φ (.got .l0) ∗ Φ (.got .r1) ∗ Φ (.got .l1) ∗ Φ (.got .yl) ∗ Φ (.got .yr) ∗ Φ (.got .yd)
    ∗ Φ (.sent .r0) ∗ Φ (.sent .l0) ∗ Φ (.sent .r1) ∗ Φ (.sent .l1) ∗ Φ (.sent .yl) ∗ Φ (.sent .yr) ∗ Φ (.sent .yd)) :=
  bigSep_univ_eq_bigSepL Cell.all (by decide) (by decide) Φ

/-- What a device needs of the schedule: the tokens of the raises it makes, its place in each of its cells, and the units its peers owe it. -/
def barToks (c : Dev nD) : sProp 𝕄 :=
  iprop(dutyTok ER (cell (lft c) .bar) 0 0 ∗ dutyTok ER (cell (rgt c) .bar) 0 1 ∗ dutyTok ER (cell (opp c) .bar) 0 2)
def sendToks (c : Dev nD) : sProp 𝕄 := bigSep Finset.univ fun t : Tr => dutyTok ER (cell c (.sent t)) 0 0
def recvToks (c : Dev nD) : sProp 𝕄 := bigSep Finset.univ fun t : Tr => dutyTok ER (cell (peer t c) (.got t)) 0 0
def places₀ (c : Dev nD) : sProp 𝕄 := bigSep Finset.univ fun k : Cell => atPos ER (cell c k) 0 ∅ 0
def units (c : Dev nD) : sProp 𝕄 := iprop(cred (tallyAt (cell c .bar) () 3) ∗ bigSep Finset.univ fun t : Tr => cred (tallyAt (cell c (.got t)) () (size t)))

/-- The semaphores of the copies within a device, at rest. -/
def localSems (c : Dev nD) : sProp 𝕄 :=
  iprop((semVal ((c : Thread nD τ), SemLoc.dma P₀.sx) 0 ∗ semVal ((c : Thread nD τ), SemLoc.dma P₀.sw) 0)
    ∗ (semVal ((c : Thread nD τ), SemLoc.dma P₁.sx) 0 ∗ semVal ((c : Thread nD τ), SemLoc.dma P₁.sw) 0)
    ∗ semVal ((c : Thread nD τ), SemLoc.dma cc0_scratch8.sem) 0 ∗ semVal ((c : Thread nD τ), SemLoc.dma cc0_scratch9.sem) 0)

def scratch (c : Dev nD) : sProp 𝕄 :=
  iprop(room (c : Thread nD τ) a5M ∗ room (c : Thread nD τ) a6M ∗ room (c : Thread nD τ) a7M ∗ room (c : Thread nD τ) a8M
    ∗ room (c : Thread nD τ) xtM ∗ room (c : Thread nD τ) wtM)

def arrays (c : Dev nD) : sProp 𝕄 :=
  iprop(holds (c : Thread nD τ) xM fullShare (xOf m c) ∗ holds (c : Thread nD τ) wM fullShare (wOf m c)
    ∗ room (c : Thread nD τ) oM ∗ room (c : Thread nD τ) sM ∗ room (c : Thread nD τ) dM)

/-- What a device starts from, -/
def bodyPre (c : Dev nD) : sProp 𝕄 :=
  iprop((records m K ∗ levAts L lv) ∗ (barToks c ∗ sendToks c ∗ recvToks c) ∗ places₀ c ∗ units c ∗ localSems c ∗ arrays m c ∗ scratch c ∗ owing c (owed (dues c)))

/-- and what it ends with: its operands as they were, its result, and every semaphore at rest. -/
def bodyPost (c : Dev nD) : sProp 𝕄 :=
  iprop((holds (c : Thread nD τ) xM fullShare (xOf m c) ∗ holds (c : Thread nD τ) wM fullShare (wOf m c) ∗ ((c : Thread nD τ).loc main_v1_0 ↦{fullShare} outOf c m))
    ∗ (bigSep Finset.univ fun k : Cell => semVal (cell c k) 0) ∗ localSems c ∗ scratch c ∗ owing c (owed []))

/-! ## What is opened to each peer -/

theorem tell_lft : iprop(room (c : Thread nD τ) slot0 ∗ room (c : Thread nD τ) slot2lo ∗ room (c : Thread nD τ) (oBlk (lft c))) ⊢ (pay m .bar (lft c) 0 : sProp 𝕄) := by
  show _ ⊢ iprop(room (rgt (lft c) : Thread nD τ) slot0 ∗ room (rgt (lft c) : Thread nD τ) slot2lo ∗ room (rgt (lft c) : Thread nD τ) (oBlk (lft c)))
  rw [rgt_lft]
theorem tell_rgt : iprop(room (c : Thread nD τ) slot1 ∗ room (c : Thread nD τ) slot2hi ∗ room (c : Thread nD τ) (oBlk (rgt c))) ⊢ (pay m .bar (rgt c) 1 : sProp 𝕄) := by
  show _ ⊢ iprop(room (lft (rgt c) : Thread nD τ) slot1 ∗ room (lft (rgt c) : Thread nD τ) slot2hi ∗ room (lft (rgt c) : Thread nD τ) (oBlk (rgt c)))
  rw [lft_rgt]
theorem tell_opp : room (c : Thread nD τ) (oBlk (opp c)) ⊢ (pay m .bar (opp c) 2 : sProp 𝕄) := by
  show _ ⊢ room (opp (opp c) : Thread nD τ) (oBlk (opp c))
  rw [opp_opp]

/-! ## What lands at each peer -/

theorem land_r0 : (pay m (.got .r0) (rgt c) 0 : sProp 𝕄) = holds (rgt c : Thread nD τ) slot0 fullShare (wOf m c) := by
  show holds (rgt c : Thread nD τ) slot0 fullShare (wOf m (lft (rgt c))) = _; rw [lft_rgt]
theorem land_l0 : (pay m (.got .l0) (lft c) 0 : sProp 𝕄) = holds (lft c : Thread nD τ) slot1 fullShare (wOf m c) := by
  show holds (lft c : Thread nD τ) slot1 fullShare (wOf m (rgt (lft c))) = _; rw [rgt_lft]
theorem land_r1 : (pay m (.got .r1) (rgt c) 0 : sProp 𝕄) = holds (rgt c : Thread nD τ) slot2lo fullShare (lo (wOf m (lft c))) := by
  show holds (rgt c : Thread nD τ) slot2lo fullShare (lo (wOf m (opp (rgt c)))) = _; rw [opp_rgt]
theorem land_l1 : (pay m (.got .l1) (lft c) 0 : sProp 𝕄) = holds (lft c : Thread nD τ) slot2hi fullShare (hi (wOf m (rgt c))) := by
  show holds (lft c : Thread nD τ) slot2hi fullShare (hi (wOf m (opp (lft c)))) = _; rw [opp_lft]
theorem land_yl : (pay m (.got .yl) (lft c) 0 : sProp 𝕄) = holds (lft c : Thread nD τ) (oBlk c) fullShare (yOf m c (lft c)) := by
  show holds (lft c : Thread nD τ) (oBlk (rgt (lft c))) fullShare (yOf m (rgt (lft c)) (lft c)) = _; rw [rgt_lft]
theorem land_yr : (pay m (.got .yr) (rgt c) 0 : sProp 𝕄) = holds (rgt c : Thread nD τ) (oBlk c) fullShare (yOf m c (rgt c)) := by
  show holds (rgt c : Thread nD τ) (oBlk (lft (rgt c))) fullShare (yOf m (lft (rgt c)) (rgt c)) = _; rw [lft_rgt]
theorem land_yd : (pay m (.got .yd) (opp c) 0 : sProp 𝕄) = holds (opp c : Thread nD τ) (oBlk c) fullShare (yOf m c (opp c)) := by
  show holds (opp c : Thread nD τ) (oBlk (opp (opp c))) fullShare (yOf m (opp (opp c)) (opp c)) = _; rw [opp_opp]

/-! ## The waits within a device -/

theorem idx_x0 : idx (.dma P₀.sx) = none := by decide
theorem idx_w0 : idx (.dma P₀.sw) = none := by decide
theorem idx_x1 : idx (.dma P₁.sx) = none := by decide
theorem idx_w1 : idx (.dma P₁.sw) = none := by decide
theorem idx_own : idx (.dma cc0_scratch8.sem) = none := by decide
theorem idx_yd : idx (.dma cc0_scratch9.sem) = none := by decide

theorem may_local {s : SemLoc sig} (hs : idx s = none) (l : List (Dev nD × Cell)) (h : ∀ p ∈ l, 0 < lev p.2) :
    (levAts L lv : sProp 𝕄) ⊢ MayWait (c : Thread nD τ) s () (owed l) :=
  may_wait c s l (by rw [hs]; exact h)

theorem may_pairs (l : List (Dev nD × Cell)) (h : ∀ p ∈ l, 0 < lev p.2) : (levAts L lv : sProp 𝕄) ⊢ iprop(may c P₀ (owed l) ∗ may c P₁ (owed l)) := by
  unfold may
  iintro #HL
  isplitr
  · isplitr
    · iapply (may_local c idx_x0 l h) $$ HL
    · iapply (may_local c idx_w0 l h) $$ HL
  · isplitr
    · iapply (may_local c idx_x1 l h) $$ HL
    · iapply (may_local c idx_w1 l h) $$ HL

section Steps
variable {α : Type} {Q : α → sProp (MT nD τ sig Unit (Elt F) ℕ UU ℕ)}

/-- A whole memref copied within the device. -/
theorem wp_copy {sp sp' : Space} {src : Memref sig .tc sp S2048x1024 .f32} {dst : Memref sig .tc sp' S2048x1024 .f32} {sm : DmaSem sig}
    {hsrc hdst hsem}
    (x : S2048x1024.Idx → Elt F .f32) {k : PUnit → Prog (TpuEff nD τ sig (Elt F) Λ₀ .tc) α} :
    iprop(holds (c : Thread nD τ) src fullShare x ∗ room (c : Thread nD τ) dst ∗ semVal ((c : Thread nD τ), SemLoc.dma sm) 0)
      ⊢ iprop((Flight EC (c : Thread nD τ) (.dma sm) () (dst.view.amount (.dma sm)) iprop(holds (c : Thread nD τ) dst fullShare x ∗ holds (c : Thread nD τ) src fullShare x)
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) :=
  wp_issue 𝒱₀ (c : Thread nD τ) none EC src.view.set fullShare (src.view.rep x) _ rfl
    (View.dmaCredit_pos _ (show 0 < S2048x1024.numel by decide)) (Finset.Subset.refl _) x (View.read_rep _ _)

/-- The wait for it. -/
theorem wp_copied {l : List (Dev nD × Cell)} {sp sp' : Space} {srcw : Memref sig .tc sp S2048x1024 .f32} {dst : Memref sig .tc sp' S2048x1024 .f32} {sm : DmaSem sig}
    {hsrc : srcw.view.WordExact} {hdst : dst.view.WordExact} {D : sProp 𝕄} (hs : idx (.dma sm) = none) (h : ∀ p ∈ l, 0 < lev p.2)
    {k : PUnit → Prog (TpuEff nD τ sig (Elt F) Λ₀ .tc) α} :
    iprop(levAts L lv ∗ Flight EC (c : Thread nD τ) (.dma sm) () (dst.view.amount (.dma sm)) D ∗ owing c (owed l))
      ⊢ iprop((iprop(D ∗ semVal ((c : Thread nD τ), SemLoc.dma sm) 0 ∗ owing c (owed l))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dst hsrc hdst) k) Q) := by
  unfold owing
  iintro ⟨#HL, Hf, ⟨%V, HO⟩⟩ Hk
  iapply (wp_waitLocalO EC 𝒱₀ (c : Thread nD τ) none () rfl) $$ [Hf HO]
  · isplitl [Hf]; · iexact Hf
    isplitl [HO]; · iexact HO
    iapply (may_local c hs l h) $$ HL
  iintro ⟨HD, Hv, HO⟩
  iapply Hk
  isplitl [HD]; · iexact HD
  isplitl [Hv]; · iexact Hv
  iexists _; iexact HO

end Steps

end Cert.KernelIdeal.Body
-- ==== Proof.KernelIdeal.Run.lean ====
/-
  One device's run of the kernel, from what it starts with to what it ends with, one step per effect in program order.
-/
module

public import proofs.«01_k».proof.Proof.KernelIdeal.Body

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds Cert.Kit

variable {F : FTy → Type} [FloatOps F]

local notation "𝕄" => MT nD τ sig Unit (Elt F) ℕ UU ℕ

variable (m : (ℓ : Loc nD τ sig) → Buf (Elt F) ℓ) (K : Dev nD × Cell → ℕ)

set_option maxHeartbeats 4000000 in
set_option maxRecDepth 65536 in
/-- The body, from a device's start to its end. -/
theorem sound_body (c : Dev nD) (Kt : PUnit → sProp (MT nD τ sig Unit (Elt F) ℕ UU ℕ)) :
    iprop(bodyPre m K c ∗ (bodyPost m c -∗ Kt ⟨⟩))
      ⊢ wp frame (wpE (defs₀ (F := F)) 𝒱₀ (c : Thread nD τ) none) Set.univ
          (cc0__body xM (Memref.isWhole_whole _) wM (Memref.isWhole_whole _) oM (Memref.isWhole_whole _) sM (Memref.isWhole_whole _) dM (Memref.isWhole_whole _)
            a5M (Memref.isWhole_whole _) a6M (Memref.isWhole_whole _) a7M (Memref.isWhole_whole _) a8M (Memref.isWhole_whole _)
            xtM (Memref.isWhole_whole _) wtM (Memref.isWhole_whole _) cc0_scratch6 cc0_scratch7 cc0_scratch8 cc0_scratch9 cc0_scratch10 cc0_scratch11 cc0_scratch12
            cc0_scratch13 cc0_scratch14 cc0_scratch15 cc0_scratch16 cc0_scratch17 cc0_scratch18 cc0_scratch19 cc0_scratch20 cc0_scratch21 cc0_scratch22 cc0_scratch23) Kt := by
  simp only [Gen.cc0__body_eq_skeleton, Gen.cc0__body_skel, Gen.k0_part9_eq_skeleton, Gen.k0_part9_skel, Gen.k0_part10_eq_skeleton, Gen.k0_part10_skel,
    Gen.k0_part11_eq_skeleton, Gen.k0_part11_skel, Gen.k0_part12_eq_skeleton, Gen.k0_part12_skel, Gen.k0_part13_eq_skeleton, Gen.k0_part13_skel,
    Gen.k0_part14_eq_skeleton, Gen.k0_part14_skel, Gen.k0_part15_eq_skeleton, Gen.k0_part15_skel, Gen.k0_part16_eq_skeleton, Gen.k0_part16_skel,
    Gen.k0_part17_eq_skeleton, Gen.k0_part17_skel, Gen.k0_part18_eq_skeleton, Gen.k0_part18_skel,
    semSignalWord, semWaitWord, Prog.lift, Prog.bind_op, Prog.bind_ret, Prog.pure_eq_ret, Prog.bind_assoc, wp_deviceId,
    pay11_eq, pay13_eq, pay15_eq, pay12_eq, pay14_eq, pay16_eq]
  unfold bodyPre barToks sendToks recvToks places₀ units localSems arrays scratch
  simp only [bigSep_tr, bigSep_cells]
  unfold dues
  iintro ⟨⟨⟨#HR, #HL⟩, ⟨⟨Tb0, Tb1, Tb2⟩, ⟨Ts_r0, Ts_l0, Ts_r1, Ts_l1, Ts_yl, Ts_yr, Ts_yd⟩, Tg_r0, Tg_l0, Tg_r1, Tg_l1, Tg_yl, Tg_yr, Tg_yd⟩,
    ⟨Ab, Ag_r0, Ag_l0, Ag_r1, Ag_l1, Ag_yl, Ag_yr, Ag_yd, As_r0, As_l0, As_r1, As_l1, As_yl, As_yr, As_yd⟩,
    ⟨Cb, Cg_r0, Cg_l0, Cg_r1, Cg_l1, Cg_yl, Cg_yr, Cg_yd⟩,
    ⟨⟨Vx0, Vw0⟩, ⟨Vx1, Vw1⟩, Vown, Vyd⟩, ⟨HX, HW, Ho, Hs, Hd⟩, ⟨H5, H6, H7, H8, Hxt, Hwt⟩, HO⟩, Hk⟩
  -- the buffers into their pieces
  ihave Hs := (slots_cut c) $$ Hs
  icases Hs with ⟨Rs0, Rs1, Rs2lo, Rs2hi⟩
  ihave Ho := (out_cut c) $$ Ho
  icases Ho with ⟨Oc, Or, Ol, Oo⟩
  ihave Hxt := (xt_cut c) $$ Hxt
  icases Hxt with ⟨Xs0, Xs1⟩
  ihave Hwt := (wt_cut c) $$ Hwt
  icases Hwt with ⟨Ws0, Ws1⟩
  ihave HW := (holds_halves (c : Thread nD τ) wM fullShare (wOf m c)).1 $$ HW
  icases HW with ⟨HWl, HWg⟩
  ihave HWl := (holds_halves (c : Thread nD τ) wM fullShare.left (wOf m c)).1 $$ HWl
  icases HWl with ⟨HWr0, HWl0⟩
  have h0 : ∀ p ∈ ([(rgt c, .got .r0), (lft c, .got .l0), (rgt c, .got .r1), (lft c, .got .l1), (lft c, .got .yl), (rgt c, .got .yr), (opp c, .got .yd)] : List (Dev nD × Cell)), 1 < lev p.2 := by simp [lev]
  have z2 : ∀ p ∈ ([(rgt c, .got .r1), (lft c, .got .l1), (lft c, .got .yl), (rgt c, .got .yr), (opp c, .got .yd)] : List (Dev nD × Cell)), 0 < lev p.2 := by simp [lev]
  have z3 : ∀ p ∈ ([(lft c, .got .l1), (lft c, .got .yl), (rgt c, .got .yr), (opp c, .got .yd)] : List (Dev nD × Cell)), 0 < lev p.2 := by simp [lev]
  have z4 : ∀ p ∈ ([(lft c, .got .yl), (rgt c, .got .yr), (opp c, .got .yd)] : List (Dev nD × Cell)), 0 < lev p.2 := by simp [lev]
  have z5 : ∀ p ∈ ([(rgt c, .got .yr), (opp c, .got .yd)] : List (Dev nD × Cell)), 0 < lev p.2 := by simp [lev]
  have z6 : ∀ p ∈ ([(opp c, .got .yd)] : List (Dev nD × Cell)), 0 < lev p.2 := by simp [lev]
  have z7 : ∀ p ∈ ([] : List (Dev nD × Cell)), 0 < lev p.2 := by simp [lev]
  have t2 : ∀ p ∈ ([(rgt c, .got .r1), (lft c, .got .l1), (lft c, .got .yl), (rgt c, .got .yr), (opp c, .got .yd)] : List (Dev nD × Cell)), 2 < lev p.2 := by simp [lev]
  have t3 : ∀ p ∈ ([(lft c, .got .l1), (lft c, .got .yl), (rgt c, .got .yr), (opp c, .got .yd)] : List (Dev nD × Cell)), 2 < lev p.2 := by simp [lev]
  have t6 : ∀ p ∈ ([(opp c, .got .yd)] : List (Dev nD × Cell)), 3 < lev p.2 := by simp [lev]
  have t7 : ∀ n : ℕ, ∀ p ∈ ([] : List (Dev nD × Cell)), n < lev p.2 := by simp
  -- the three peers told, and heard from
  iapply (wp_tell m K (dev1_eq c) 0 rfl) $$ [HO Tb0 Rs0 Rs2lo Ol]
  · isplitr; · iexact HR
    isplitl [HO]; · iexact HO
    isplitl [Tb0]; · iexact Tb0
    iapply (tell_lft m c)
    isplitl [Rs0]; · iexact Rs0
    isplitl [Rs2lo]; · iexact Rs2lo
    iexact Ol
  iintro HO
  iapply (wp_tell m K (dev2_eq c) 1 rfl) $$ [HO Tb1 Rs1 Rs2hi Or]
  · isplitr; · iexact HR
    isplitl [HO]; · iexact HO
    isplitl [Tb1]; · iexact Tb1
    iapply (tell_rgt m c)
    isplitl [Rs1]; · iexact Rs1
    isplitl [Rs2hi]; · iexact Rs2hi
    iexact Or
  iintro HO
  iapply (wp_tell m K (dev3_eq c) 2 rfl) $$ [HO Tb2 Oo]
  · isplitr; · iexact HR
    isplitl [HO]; · iexact HO
    isplitl [Tb2]; · iexact Tb2
    iapply (tell_opp m c)
    iexact Oo
  iintro HO
  iapply (wp_hear m K rfl h0) $$ [HO Cb Ab]
  · isplitr; · iexact HR
    isplitr; · iexact HL
    isplitl [HO]; · iexact HO
    isplitl [Cb]; · iexact Cb
    iexact Ab
  iintro ⟨HO, ⟨Hp0, Hp1, Hp2⟩, Zb⟩
  unfold pay
  icases Hp0 with ⟨Nr0, Nr2, Nro⟩
  icases Hp1 with ⟨Nl1, Nl2, Nlo⟩
  -- the right operand sent both ways
  iapply (wp_put m K .r0 (src := wM) (dst := slot0) (dev4_eq c) rfl rfl rfl fullShare.left.left (wOf m c) rfl (land_r0 m c)) $$ [HO Ts_r0 Tg_r0 HWr0 Nr0]
  · isplitr; · iexact HR
    isplitl [HO]; · iexact HO
    isplitl [Ts_r0]; · iexact Ts_r0
    isplitl [Tg_r0]; · iexact Tg_r0
    isplitl [HWr0]; · iexact HWr0
    iexact Nr0
  iintro ⟨HO, Cs_r0⟩
  iapply (wp_put m K .l0 (src := wM) (dst := slot1) (dev5_eq c) rfl rfl rfl fullShare.left.right (wOf m c) rfl (land_l0 m c)) $$ [HO Ts_l0 Tg_l0 HWl0 Nl1]
  · isplitr; · iexact HR
    isplitl [HO]; · iexact HO
    isplitl [Ts_l0]; · iexact Ts_l0
    isplitl [Tg_l0]; · iexact Tg_l0
    isplitl [HWl0]; · iexact HWl0
    iexact Nl1
  iintro ⟨HO, Cs_l0⟩
  -- the block of its own operand, and its copy into the result
  iapply (wp_gemm EC c xM wM fullShare fullShare.right (xOf m c) (wOf m c) (P₀ := P₀) (P₁ := P₁) rfl rfl rfl rfl rfl
    (fun t u => wp_body1 EC c (xOf m c) (wOf m c) _ _ _ _ _ _ _ _ _ _ t u)) $$ [Xs0 Ws0 Vx0 Vw0 Xs1 Ws1 Vx1 Vw1 HX HWg H5 HO]
  · unfold places
    isplitl [Xs0 Ws0 Vx0 Vw0 Xs1 Ws1 Vx1 Vw1 HX]
    · isplitl [Xs0 Ws0 Vx0 Vw0]
      · isplitl [Xs0]; · iexact Xs0
        isplitl [Ws0]; · iexact Ws0
        isplitl [Vx0] <;> iassumption
      isplitl [Xs1 Ws1 Vx1 Vw1]
      · isplitl [Xs1]; · iexact Xs1
        isplitl [Ws1]; · iexact Ws1
        isplitl [Vx1] <;> iassumption
      iexact HX
    isplitl [HWg]; · iexact HWg
    isplitl [H5]; · iexact H5
    isplitl [HO]; · iexact HO
    iapply (may_pairs c _ z2) $$ HL
  unfold places
  iintro ⟨⟨⟨Xs0, Ws0, Vx0, Vw0⟩, ⟨Xs1, Ws1, Vx1, Vw1⟩, HX⟩, HWg, H5, HO⟩
  iapply (wp_copy c (yOf m c c)) $$ [H5 Oc Vown]
  · isplitl [H5]; · iexact H5
    isplitl [Oc]; · iexact Oc
    iexact Vown
  iintro Fown
  -- the operand from the left, its upper half passed on
  iapply (wp_take m K (.got .r0) (dst := slot0) (by decide) (t2) rfl rfl) $$ [HO Cg_r0 Ag_r0]
  · isplitr; · iexact HR
    isplitr; · iexact HL
    isplitl [HO]; · iexact HO
    isplitl [Cg_r0]; · iexact Cg_r0
    iexact Ag_r0
  iintro ⟨HO, Hs0, Zg_r0⟩
  ihave Hs0 := (show (pay m (.got .r0) c 0 : sProp 𝕄) ⊢ holds (c : Thread nD τ) slot0 fullShare (wOf m (lft c)) from BIBase.Entails.refl) $$ Hs0
  ihave Hs0 := (holds_halves (c : Thread nD τ) slot0 fullShare (wOf m (lft c))).1 $$ Hs0
  icases Hs0 with ⟨Hs0p, Hs0⟩
  ihave Hs0p := (slot0_lo c fullShare.left (wOf m (lft c))) $$ Hs0p
  iapply (wp_put m K .r1 (src := slot0lo) (dst := slot2lo) (dev6_eq c) rfl rfl rfl fullShare.left (lo (wOf m (lft c))) rfl (land_r1 m c)) $$ [HO Ts_r1 Tg_r1 Hs0p Nr2]
  · isplitr; · iexact HR
    isplitl [HO]; · iexact HO
    isplitl [Ts_r1]; · iexact Ts_r1
    isplitl [Tg_r1]; · iexact Tg_r1
    isplitl [Hs0p]; · iexact Hs0p
    iexact Nr2
  iintro ⟨HO, Cs_r1⟩
  -- the operand from the right, its lower half passed on
  iapply (wp_take m K (.got .l0) (dst := slot1) (by decide) (t3) rfl rfl) $$ [HO Cg_l0 Ag_l0]
  · isplitr; · iexact HR
    isplitr; · iexact HL
    isplitl [HO]; · iexact HO
    isplitl [Cg_l0]; · iexact Cg_l0
    iexact Ag_l0
  iintro ⟨HO, Hs1, Zg_l0⟩
  ihave Hs1 := (show (pay m (.got .l0) c 0 : sProp 𝕄) ⊢ holds (c : Thread nD τ) slot1 fullShare (wOf m (rgt c)) from BIBase.Entails.refl) $$ Hs1
  ihave Hs1 := (holds_halves (c : Thread nD τ) slot1 fullShare (wOf m (rgt c))).1 $$ Hs1
  icases Hs1 with ⟨Hs1p, Hs1⟩
  ihave Hs1p := (slot1_hi c fullShare.left (wOf m (rgt c))) $$ Hs1p
  iapply (wp_put m K .l1 (src := slot1hi) (dst := slot2hi) (dev7_eq c) rfl rfl rfl fullShare.left (hi (wOf m (rgt c))) rfl (land_l1 m c)) $$ [HO Ts_l1 Tg_l1 Hs1p Nl2]
  · isplitr; · iexact HR
    isplitl [HO]; · iexact HO
    isplitl [Ts_l1]; · iexact Ts_l1
    isplitl [Tg_l1]; · iexact Tg_l1
    isplitl [Hs1p]; · iexact Hs1p
    iexact Nl2
  iintro ⟨HO, Cs_l1⟩
  -- the left neighbour's block, sent home
  iapply (wp_gemm EC c xM slot0 fullShare fullShare.right (xOf m c) (wOf m (lft c)) (P₀ := P₀) (P₁ := P₁) rfl rfl rfl rfl rfl
    (fun t u => wp_body2 EC c (xOf m c) (wOf m (lft c)) _ _ _ _ _ _ t u)) $$ [Xs0 Ws0 Vx0 Vw0 Xs1 Ws1 Vx1 Vw1 HX Hs0 H6 HO]
  · unfold places
    isplitl [Xs0 Ws0 Vx0 Vw0 Xs1 Ws1 Vx1 Vw1 HX]
    · isplitl [Xs0 Ws0 Vx0 Vw0]
      · isplitl [Xs0]; · iexact Xs0
        isplitl [Ws0]; · iexact Ws0
        isplitl [Vx0] <;> iassumption
      isplitl [Xs1 Ws1 Vx1 Vw1]
      · isplitl [Xs1]; · iexact Xs1
        isplitl [Ws1]; · iexact Ws1
        isplitl [Vx1] <;> iassumption
      iexact HX
    isplitl [Hs0]; · iexact Hs0
    isplitl [H6]; · iexact H6
    isplitl [HO]; · iexact HO
    iapply (may_pairs c _ z4) $$ HL
  unfold places
  iintro ⟨⟨⟨Xs0, Ws0, Vx0, Vw0⟩, ⟨Xs1, Ws1, Vx1, Vw1⟩, HX⟩, Hs0, H6, HO⟩
  iapply (wp_put m K .yl (src := a6M) (dst := oBlk c) (dev8_eq c) rfl rfl rfl fullShare (yOf m c (lft c)) rfl (land_yl m c)) $$ [HO Ts_yl Tg_yl H6 Nlo]
  · isplitr; · iexact HR
    isplitl [HO]; · iexact HO
    isplitl [Ts_yl]; · iexact Ts_yl
    isplitl [Tg_yl]; · iexact Tg_yl
    isplitl [H6]; · iexact H6
    iexact Nlo
  iintro ⟨HO, Cs_yl⟩
  -- the right neighbour's block, sent home
  iapply (wp_gemm EC c xM slot1 fullShare fullShare.right (xOf m c) (wOf m (rgt c)) (P₀ := P₀) (P₁ := P₁) rfl rfl rfl rfl rfl
    (fun t u => wp_body3 EC c (xOf m c) (wOf m (rgt c)) _ _ _ _ _ _ _ t u)) $$ [Xs0 Ws0 Vx0 Vw0 Xs1 Ws1 Vx1 Vw1 HX Hs1 H7 HO]
  · unfold places
    isplitl [Xs0 Ws0 Vx0 Vw0 Xs1 Ws1 Vx1 Vw1 HX]
    · isplitl [Xs0 Ws0 Vx0 Vw0]
      · isplitl [Xs0]; · iexact Xs0
        isplitl [Ws0]; · iexact Ws0
        isplitl [Vx0] <;> iassumption
      isplitl [Xs1 Ws1 Vx1 Vw1]
      · isplitl [Xs1]; · iexact Xs1
        isplitl [Ws1]; · iexact Ws1
        isplitl [Vx1] <;> iassumption
      iexact HX
    isplitl [Hs1]; · iexact Hs1
    isplitl [H7]; · iexact H7
    isplitl [HO]; · iexact HO
    iapply (may_pairs c _ z5) $$ HL
  unfold places
  iintro ⟨⟨⟨Xs0, Ws0, Vx0, Vw0⟩, ⟨Xs1, Ws1, Vx1, Vw1⟩, HX⟩, Hs1, H7, HO⟩
  iapply (wp_put m K .yr (src := a7M) (dst := oBlk c) (dev9_eq c) rfl rfl rfl fullShare (yOf m c (rgt c)) rfl (land_yr m c)) $$ [HO Ts_yr Tg_yr H7 Nro]
  · isplitr; · iexact HR
    isplitl [HO]; · iexact HO
    isplitl [Ts_yr]; · iexact Ts_yr
    isplitl [Tg_yr]; · iexact Tg_yr
    isplitl [H7]; · iexact H7
    iexact Nro
  iintro ⟨HO, Cs_yr⟩
  -- both halves of the opposite device's operand, and its block
  iapply (wp_take m K (.got .r1) (dst := slot2lo) (by decide) (t6) rfl rfl) $$ [HO Cg_r1 Ag_r1]
  · isplitr; · iexact HR
    isplitr; · iexact HL
    isplitl [HO]; · iexact HO
    isplitl [Cg_r1]; · iexact Cg_r1
    iexact Ag_r1
  iintro ⟨HO, Hs2lo, Zg_r1⟩
  ihave Hs2lo := (show (pay m (.got .r1) c 0 : sProp 𝕄) ⊢ holds (c : Thread nD τ) slot2lo fullShare (lo (wOf m (opp c))) from BIBase.Entails.refl) $$ Hs2lo
  iapply (wp_take m K (.got .l1) (dst := slot2hi) (by decide) (t6) rfl rfl) $$ [HO Cg_l1 Ag_l1]
  · isplitr; · iexact HR
    isplitr; · iexact HL
    isplitl [HO]; · iexact HO
    isplitl [Cg_l1]; · iexact Cg_l1
    iexact Ag_l1
  iintro ⟨HO, Hs2hi, Zg_l1⟩
  ihave Hs2hi := (show (pay m (.got .l1) c 0 : sProp 𝕄) ⊢ holds (c : Thread nD τ) slot2hi fullShare (hi (wOf m (opp c))) from BIBase.Entails.refl) $$ Hs2hi
  ihave Hs2 := (slot2_join c fullShare (wOf m (opp c))) $$ [Hs2lo Hs2hi]
  · isplitl [Hs2lo] <;> iassumption
  iapply (wp_gemm EC c xM slot2 fullShare fullShare (xOf m c) (wOf m (opp c)) (P₀ := P₀) (P₁ := P₁) rfl rfl rfl rfl rfl
    (fun t u => wp_body4 EC c (xOf m c) (wOf m (opp c)) _ _ _ _ _ _ _ _ t u)) $$ [Xs0 Ws0 Vx0 Vw0 Xs1 Ws1 Vx1 Vw1 HX Hs2 H8 HO]
  · unfold places
    isplitl [Xs0 Ws0 Vx0 Vw0 Xs1 Ws1 Vx1 Vw1 HX]
    · isplitl [Xs0 Ws0 Vx0 Vw0]
      · isplitl [Xs0]; · iexact Xs0
        isplitl [Ws0]; · iexact Ws0
        isplitl [Vx0] <;> iassumption
      isplitl [Xs1 Ws1 Vx1 Vw1]
      · isplitl [Xs1]; · iexact Xs1
        isplitl [Ws1]; · iexact Ws1
        isplitl [Vx1] <;> iassumption
      iexact HX
    isplitl [Hs2]; · iexact Hs2
    isplitl [H8]; · iexact H8
    isplitl [HO]; · iexact HO
    iapply (may_pairs c _ z6) $$ HL
  unfold places
  iintro ⟨⟨⟨Xs0, Ws0, Vx0, Vw0⟩, ⟨Xs1, Ws1, Vx1, Vw1⟩, HX⟩, Hs2, H8, HO⟩
  iapply (wp_copy c (yOf m c (opp c))) $$ [H8 Hd Vyd]
  · isplitl [H8]; · iexact H8
    isplitl [Hd]; · iexact Hd
    iexact Vyd
  iintro Fyd
  iapply (wp_copied c idx_yd z6) $$ [Fyd HO]
  · isplitr; · iexact HL
    isplitl [Fyd]; · iexact Fyd
    iexact HO
  iintro ⟨⟨Hd, H8⟩, Vyd, HO⟩
  iapply (wp_put m K .yd (src := dM) (dst := oBlk c) (dev10_eq c) rfl rfl rfl fullShare (yOf m c (opp c)) rfl (land_yd m c)) $$ [HO Ts_yd Tg_yd Hd Hp2]
  · isplitr; · iexact HR
    isplitl [HO]; · iexact HO
    isplitl [Ts_yd]; · iexact Ts_yd
    isplitl [Tg_yd]; · iexact Tg_yd
    isplitl [Hd]; · iexact Hd
    iexact Hp2
  iintro ⟨HO, Cs_yd⟩
  -- everything waited for
  iapply (wp_copied c idx_own z7) $$ [Fown HO]
  · isplitr; · iexact HL
    isplitl [Fown]; · iexact Fown
    iexact HO
  iintro ⟨⟨Oc, H5⟩, Vown, HO⟩
  iapply (wp_take m K (.got .yl) (dst := oBlk c) (by decide) (t7 _) rfl rfl) $$ [HO Cg_yl Ag_yl]
  · isplitr; · iexact HR
    isplitr; · iexact HL
    isplitl [HO]; · iexact HO
    isplitl [Cg_yl]; · iexact Cg_yl
    iexact Ag_yl
  iintro ⟨HO, Or, Zg_yl⟩
  ihave Or := (show (pay m (.got .yl) c 0 : sProp 𝕄) ⊢ holds (c : Thread nD τ) (oBlk (rgt c)) fullShare (yOf m (rgt c) c) from BIBase.Entails.refl) $$ Or
  iapply (wp_take m K (.got .yr) (dst := oBlk c) (by decide) (t7 _) rfl rfl) $$ [HO Cg_yr Ag_yr]
  · isplitr; · iexact HR
    isplitr; · iexact HL
    isplitl [HO]; · iexact HO
    isplitl [Cg_yr]; · iexact Cg_yr
    iexact Ag_yr
  iintro ⟨HO, Ol, Zg_yr⟩
  ihave Ol := (show (pay m (.got .yr) c 0 : sProp 𝕄) ⊢ holds (c : Thread nD τ) (oBlk (lft c)) fullShare (yOf m (lft c) c) from BIBase.Entails.refl) $$ Ol
  iapply (wp_take m K (.got .yd) (dst := oBlk c) (by decide) (t7 _) rfl rfl) $$ [HO Cg_yd Ag_yd]
  · isplitr; · iexact HR
    isplitr; · iexact HL
    isplitl [HO]; · iexact HO
    isplitl [Cg_yd]; · iexact Cg_yd
    iexact Ag_yd
  iintro ⟨HO, Oo, Zg_yd⟩
  ihave Oo := (show (pay m (.got .yd) c 0 : sProp 𝕄) ⊢ holds (c : Thread nD τ) (oBlk (opp c)) fullShare (yOf m (opp c) c) from BIBase.Entails.refl) $$ Oo
  iapply (wp_take m K (.sent .r0) (dst := wM) (by decide) (t7 _) rfl rfl) $$ [HO Cs_r0 As_r0]
  · isplitr; · iexact HR
    isplitr; · iexact HL
    isplitl [HO]; · iexact HO
    isplitl [Cs_r0]; · iexact Cs_r0
    iexact As_r0
  iintro ⟨HO, HWr0, Zs_r0⟩
  ihave HWr0 := (show (pay m (.sent .r0) c 0 : sProp 𝕄) ⊢ holds (c : Thread nD τ) wM fullShare.left.left (wOf m c) from BIBase.Entails.refl) $$ HWr0
  iapply (wp_take m K (.sent .l0) (dst := wM) (by decide) (t7 _) rfl rfl) $$ [HO Cs_l0 As_l0]
  · isplitr; · iexact HR
    isplitr; · iexact HL
    isplitl [HO]; · iexact HO
    isplitl [Cs_l0]; · iexact Cs_l0
    iexact As_l0
  iintro ⟨HO, HWl0, Zs_l0⟩
  ihave HWl0 := (show (pay m (.sent .l0) c 0 : sProp 𝕄) ⊢ holds (c : Thread nD τ) wM fullShare.left.right (wOf m c) from BIBase.Entails.refl) $$ HWl0
  iapply (wp_take m K (.sent .r1) (dst := slot0lo) (by decide) (t7 _) rfl rfl) $$ [HO Cs_r1 As_r1]
  · isplitr; · iexact HR
    isplitr; · iexact HL
    isplitl [HO]; · iexact HO
    isplitl [Cs_r1]; · iexact Cs_r1
    iexact As_r1
  iintro ⟨HO, Hs0p, Zs_r1⟩
  ihave Hs0p := (show (pay m (.sent .r1) c 0 : sProp 𝕄) ⊢ holds (c : Thread nD τ) slot0lo fullShare.left (lo (wOf m (lft c))) from BIBase.Entails.refl) $$ Hs0p
  iapply (wp_take m K (.sent .l1) (dst := slot1hi) (by decide) (t7 _) rfl rfl) $$ [HO Cs_l1 As_l1]
  · isplitr; · iexact HR
    isplitr; · iexact HL
    isplitl [HO]; · iexact HO
    isplitl [Cs_l1]; · iexact Cs_l1
    iexact As_l1
  iintro ⟨HO, Hs1p, Zs_l1⟩
  ihave Hs1p := (show (pay m (.sent .l1) c 0 : sProp 𝕄) ⊢ holds (c : Thread nD τ) slot1hi fullShare.left (hi (wOf m (rgt c))) from BIBase.Entails.refl) $$ Hs1p
  iapply (wp_take m K (.sent .yl) (dst := a6M) (by decide) (t7 _) rfl rfl) $$ [HO Cs_yl As_yl]
  · isplitr; · iexact HR
    isplitr; · iexact HL
    isplitl [HO]; · iexact HO
    isplitl [Cs_yl]; · iexact Cs_yl
    iexact As_yl
  iintro ⟨HO, H6, Zs_yl⟩
  ihave H6 := (show (pay m (.sent .yl) c 0 : sProp 𝕄) ⊢ holds (c : Thread nD τ) a6M fullShare (yOf m c (lft c)) from BIBase.Entails.refl) $$ H6
  iapply (wp_take m K (.sent .yr) (dst := a7M) (by decide) (t7 _) rfl rfl) $$ [HO Cs_yr As_yr]
  · isplitr; · iexact HR
    isplitr; · iexact HL
    isplitl [HO]; · iexact HO
    isplitl [Cs_yr]; · iexact Cs_yr
    iexact As_yr
  iintro ⟨HO, H7, Zs_yr⟩
  ihave H7 := (show (pay m (.sent .yr) c 0 : sProp 𝕄) ⊢ holds (c : Thread nD τ) a7M fullShare (yOf m c (rgt c)) from BIBase.Entails.refl) $$ H7
  iapply (wp_take m K (.sent .yd) (dst := dM) (by decide) (t7 _) rfl rfl) $$ [HO Cs_yd As_yd]
  · isplitr; · iexact HR
    isplitr; · iexact HL
    isplitl [HO]; · iexact HO
    isplitl [Cs_yd]; · iexact Cs_yd
    iexact As_yd
  iintro ⟨HO, Hd, Zs_yd⟩
  ihave Hd := (show (pay m (.sent .yd) c 0 : sProp 𝕄) ⊢ holds (c : Thread nD τ) dM fullShare (yOf m c (opp c)) from BIBase.Entails.refl) $$ Hd
  rw [wp_ret]; imodintro
  iapply Hk
  unfold bodyPost localSems scratch
  simp only [bigSep_cells]
  isplitl [HX HWr0 HWl0 HWg Oc Or Ol Oo]
  · isplitl [HX]; · iexact HX
    isplitl [HWr0 HWl0 HWg]
    · iapply (holds_halves (c : Thread nD τ) wM fullShare (wOf m c)).2
      isplitl [HWr0 HWl0]
      · iapply (holds_halves (c : Thread nD τ) wM fullShare.left (wOf m c)).2
        isplitl [HWr0] <;> iassumption
      iexact HWg
    iapply (out_join c m)
    isplitl [Oc]; · iexact Oc
    isplitl [Or]; · iexact Or
    isplitl [Ol] <;> iassumption
  isplitl [Zb Zg_r0 Zg_l0 Zg_r1 Zg_l1 Zg_yl Zg_yr Zg_yd Zs_r0 Zs_l0 Zs_r1 Zs_l1 Zs_yl Zs_yr Zs_yd]
  · isplitl [Zb]; · iexact Zb
    isplitl [Zg_r0]; · iexact Zg_r0
    isplitl [Zg_l0]; · iexact Zg_l0
    isplitl [Zg_r1]; · iexact Zg_r1
    isplitl [Zg_l1]; · iexact Zg_l1
    isplitl [Zg_yl]; · iexact Zg_yl
    isplitl [Zg_yr]; · iexact Zg_yr
    isplitl [Zg_yd]; · iexact Zg_yd
    isplitl [Zs_r0]; · iexact Zs_r0
    isplitl [Zs_l0]; · iexact Zs_l0
    isplitl [Zs_r1]; · iexact Zs_r1
    isplitl [Zs_l1]; · iexact Zs_l1
    isplitl [Zs_yl]; · iexact Zs_yl
    isplitl [Zs_yr]; · iexact Zs_yr
    iexact Zs_yd
  isplitl [Vx0 Vw0 Vx1 Vw1 Vown Vyd]
  · isplitl [Vx0 Vw0]
    · isplitl [Vx0] <;> iassumption
    isplitl [Vx1 Vw1]
    · isplitl [Vx1] <;> iassumption
    isplitl [Vown] <;> iassumption
  isplitl [H5 H6 H7 H8 Xs0 Xs1 Ws0 Ws1]
  · isplitl [H5]; · iapply (room_of_holds (c : Thread nD τ) a5M _) $$ H5
    isplitl [H6]; · iapply (room_of_holds (c : Thread nD τ) a6M _) $$ H6
    isplitl [H7]; · iapply (room_of_holds (c : Thread nD τ) a7M _) $$ H7
    isplitl [H8]; · iapply (room_of_holds (c : Thread nD τ) a8M _) $$ H8
    isplitl [Xs0 Xs1]
    · iapply (xt_join c)
      isplitl [Xs0] <;> iassumption
    iapply (wt_join c)
    isplitl [Ws0] <;> iassumption
  iexact HO

end Cert.KernelIdeal.Body
-- ==== Proof.KernelIdeal.Launch.lean ====
/-
  The launch: from any memory with every semaphore at rest, the four devices' runs together end, each with its
  operands as they were, its result written, and every semaphore at rest again.
-/
module

public import proofs.«01_k».proof.Proof.KernelIdeal.Run
public import proofs.«01_k».proof.Proof.Gen.KernelIdeal.Points
public import Idealize.ShloMosaic.Lib.Pipeline.Quiescent

@[expose] public section

noncomputable section

namespace Cert.KernelIdeal.Body

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Rounds Cert.Kit

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What a device owes its peers at launch. -/
def O₀ (c : Dev nD) : CellTallies nD τ sig Unit := owed (dues c)

/-! ## The equivalences of the ring -/

def toLft : Dev nD ≃ Dev nD := ⟨lft, rgt, rgt_lft, lft_rgt⟩
def toRgt : Dev nD ≃ Dev nD := ⟨rgt, lft, lft_rgt, rgt_lft⟩
def toOpp : Dev nD ≃ Dev nD := ⟨opp, opp, opp_opp, opp_opp⟩
def toPeer : Tr → (Dev nD ≃ Dev nD)
  | .r0 | .r1 | .yr => toRgt
  | .l0 | .l1 | .yl => toLft
  | .yd => toOpp
theorem toPeer_eq (t : Tr) (c : Dev nD) : toPeer t c = peer t c := by cases t <;> rfl

/-! ## The launch's tokens and the records every device starts with -/

def cellOf (p : Dev nD × Cell) : GSem nD τ sig := cell p.1 p.2
theorem cellOf_injective : Function.Injective cellOf := fun p q h => Prod.ext (cell_inj.mp h).1 (cell_inj.mp h).2
def ringCells : Finset (GSem nD τ sig) := Finset.univ.map ⟨cellOf, cellOf_injective⟩

def tokOf (p : Dev nD × (Cell × Fin 3)) : GSem nD τ sig × ℕ × Fin 3 := (cell p.1 p.2.1, 0, p.2.2)
theorem tokOf_injective : Function.Injective tokOf := fun p q h => by
  have h1 := cell_inj.mp (congrArg Prod.fst h)
  exact Prod.ext h1.1 (Prod.ext h1.2 (congrArg (fun x : GSem nD τ sig × ℕ × Fin 3 => x.2.2) h))
def ringToks : Finset (GSem nD τ sig × ℕ × Fin 3) := Finset.univ.map ⟨tokOf, tokOf_injective⟩

def u₀ : UU :=
  (initOf (Pipeline.cells cfgs Gen.cellOf_inj) (Pipeline.launchToks cfgs Gen.cellOf_inj), (initOf ringCells ringToks, 1))

/-- The tokens of a device's own cells. -/
def toks (c : Dev nD) : sProp 𝕄 := bigSep Finset.univ fun k : Cell => bigSep Finset.univ fun j : Fin 3 => dutyTok ER (cell c k) 0 j

/-- What the launch deals a device, -/
def G (c : Dev nD) : sProp 𝕄 :=
  iprop((bigSep Finset.univ fun k : Cell => roundState ER (Rd m) (cell c k) 0)
    ∗ places₀ c ∗ (bigSep Finset.univ fun k : Cell => reached ER (cell c k) 0) ∗ toks c)

/-- what it keeps, -/
def kept (c : Dev nD) : sProp 𝕄 := iprop((barToks c ∗ sendToks c ∗ recvToks c) ∗ places₀ c ∗ localSems c)

/-- and what it has once every device's cells are watched. -/
def G' (c : Dev nD) : sProp 𝕄 := iprop(∃ K, records m K ∗ kept c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places₀; simp only [bigSep_sep']
  isplitl [Hst]; · iexact Hst
  isplitl [Hat]; · iexact Hat
  isplitl [Hr]; · iexact Hr
  iexact Htok

/-! ## The semaphores of a device -/

/-- The kernel's own semaphores. -/
abbrev osem : Fin 20 → SemLoc sig :=
  ![csem (.got .r0), csem (.got .l0), csem (.got .r1), csem (.got .l1), csem (.got .yl), csem (.got .yr), csem (.got .yd),
    csem (.sent .r0), csem (.sent .l0), csem (.sent .r1), csem (.sent .l1), csem (.sent .yl), csem (.sent .yr), csem (.sent .yd),
    .dma P₀.sx, .dma P₀.sw, .dma P₁.sx, .dma P₁.sw, .dma cc0_scratch8.sem, .dma cc0_scratch9.sem]

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (cell c (.got .r0)) 0 ∗ semVal (cell c (.got .l0)) 0 ∗ semVal (cell c (.got .r1)) 0 ∗ semVal (cell c (.got .l1)) 0 ∗ semVal (cell c (.got .yl)) 0
      ∗ semVal (cell c (.got .yr)) 0 ∗ semVal (cell c (.got .yd)) 0 ∗ semVal (cell c (.sent .r0)) 0 ∗ semVal (cell c (.sent .l0)) 0 ∗ semVal (cell c (.sent .r1)) 0
      ∗ semVal (cell c (.sent .l1)) 0 ∗ semVal (cell c (.sent .yl)) 0 ∗ semVal (cell c (.sent .yr)) 0 ∗ semVal (cell c (.sent .yd)) 0
      ∗ semVal ((c : Thread nD τ), SemLoc.dma P₀.sx) 0 ∗ semVal ((c : Thread nD τ), SemLoc.dma P₀.sw) 0 ∗ semVal ((c : Thread nD τ), SemLoc.dma P₁.sx) 0
      ∗ semVal ((c : Thread nD τ), SemLoc.dma P₁.sw) 0 ∗ semVal ((c : Thread nD τ), SemLoc.dma cc0_scratch8.sem) 0 ∗ semVal ((c : Thread nD τ), SemLoc.dma cc0_scratch9.sem) 0) := by
  rw [Pipeline.ownSems0_eq_of_list c osem [0, 1, 2, 3, 4, 5, 6, 7, 8, 9, 10, 11, 12, 13, 14, 15, 16, 17, 18, 19] (by decide) (by decide)]; rfl

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- All of them: the cells' and the local ones. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Cell => semVal (cell c k) 0) ∗ localSems c) : sProp 𝕄) := by
  rw [ownSems0_eq, unscopedSems0_eq, bigSep_cells]
  unfold localSems
  iintro ⟨⟨G1, G2, G3, G4, G5, G6, G7, S1, S2, S3, S4, S5, S6, S7, X0, W0, X1, W1, L1, L2⟩, B⟩
  isplitl [B G1 G2 G3 G4 G5 G6 G7 S1 S2 S3 S4 S5 S6 S7]
  · iframe
  · iframe

theorem sems_join (c : Dev nD) :
    (iprop((bigSep Finset.univ fun k : Cell => semVal (cell c k) 0) ∗ localSems c) : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq, bigSep_cells]
  unfold localSems
  iintro ⟨⟨B, G1, G2, G3, G4, G5, G6, G7, S1, S2, S3, S4, S5, S6, S7⟩, ⟨X0, W0⟩, ⟨X1, W1⟩, L1, L2⟩
  isplitr [B]
  · iframe
  · iexact B

/-! ## The cells watched -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (cell c k)))
          ∗ (bigSep Finset.univ fun k : Cell => reached ER (cell c k) 0) ∗ toks c ∗ places₀ c ∗ localSems c) := by
  unfold G
  iintro ⟨Hos, Hus, Hst, Hat, Hr, Htok⟩
  ihave Hv := (sems_split (F := F) c) $$ [Hos Hus]
  · isplitl [Hos] <;> iassumption
  icases Hv with ⟨Hv, Hloc⟩
  imod (show iprop((bigSep Finset.univ fun k : Cell => semVal (cell c k) 0) ∗ bigSep Finset.univ fun k : Cell => roundState ER (Rd m) (cell c k) 0)
      ⊢ (|={Set.univ}=> bigSep Finset.univ fun k : Cell => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

/-- A device's own tokens, as they are dealt out. -/
theorem toks_split (c : Dev nD) : (toks c : sProp 𝕄)
    ⊢ iprop((dutyTok ER (cell c .bar) 0 0 ∗ dutyTok ER (cell c .bar) 0 1 ∗ dutyTok ER (cell c .bar) 0 2) ∗ sendToks c
        ∗ bigSep Finset.univ fun t : Tr => dutyTok ER (cell c (.got t)) 0 0) := by
  have h0 (k : Cell) : (bigSep Finset.univ fun j : Fin 3 => (dutyTok ER (cell c k) 0 j : sProp 𝕄)) ⊢ dutyTok ER (cell c k) 0 0 :=
    bigSep_elim (Φ := fun j : Fin 3 => (dutyTok ER (cell c k) 0 j : sProp 𝕄)) (Finset.mem_univ 0)
  have hb : (bigSep Finset.univ fun j : Fin 3 => (dutyTok ER (cell c .bar) 0 j : sProp 𝕄))
      = iprop(dutyTok ER (cell c .bar) 0 0 ∗ dutyTok ER (cell c .bar) 0 1 ∗ dutyTok ER (cell c .bar) 0 2) :=
    bigSep_univ_eq_bigSepL ([0, 1, 2] : List (Fin 3)) (by decide) (by decide) _
  unfold toks sendToks
  rw [bigSep_cells, bigSep_tr, bigSep_tr, hb]
  iintro ⟨B, G1, G2, G3, G4, G5, G6, G7, S1, S2, S3, S4, S5, S6, S7⟩
  isplitl [B]; · iexact B
  isplitl [S1 S2 S3 S4 S5 S6 S7]
  · isplitl [S1]; · iapply (h0 _) $$ S1
    isplitl [S2]; · iapply (h0 _) $$ S2
    isplitl [S3]; · iapply (h0 _) $$ S3
    isplitl [S4]; · iapply (h0 _) $$ S4
    isplitl [S5]; · iapply (h0 _) $$ S5
    isplitl [S6]; · iapply (h0 _) $$ S6
    iapply (h0 _) $$ S7
  · isplitl [G1]; · iapply (h0 _) $$ G1
    isplitl [G2]; · iapply (h0 _) $$ G2
    isplitl [G3]; · iapply (h0 _) $$ G3
    isplitl [G4]; · iapply (h0 _) $$ G4
    isplitl [G5]; · iapply (h0 _) $$ G5
    isplitl [G6]; · iapply (h0 _) $$ G6
    iapply (h0 _) $$ G7

/-- The landing tokens of every device, each given to the device whose transfer lands there. -/
theorem recv_around : (bigSep Finset.univ fun c : Dev nD => bigSep Finset.univ fun t : Tr => (dutyTok ER (cell c (.got t)) 0 0 : sProp 𝕄))
    = bigSep Finset.univ fun c : Dev nD => recvToks c := by
  unfold recvToks
  rw [BI.bigSep_univ_comm, BI.bigSep_univ_comm (fun (c : Dev nD) (t : Tr) => (dutyTok ER (cell (peer t c) (.got t)) 0 0 : sProp 𝕄))]
  refine bigSep_congr fun t _ => ?_
  rw [bigSep_univ_equiv (toPeer t) (fun c : Dev nD => (dutyTok ER (cell c (.got t)) 0 0 : sProp 𝕄))]
  exact bigSep_congr fun c _ => by rw [toPeer_eq]

/-- The barrier's tokens likewise. -/
theorem bar_around :
    (bigSep Finset.univ fun c : Dev nD => (iprop(dutyTok ER (cell c .bar) 0 0 ∗ dutyTok ER (cell c .bar) 0 1 ∗ dutyTok ER (cell c .bar) 0 2) : sProp 𝕄))
    = bigSep Finset.univ fun c : Dev nD => barToks c := by
  unfold barToks
  rw [bigSep_sep', bigSep_sep', bigSep_sep', bigSep_sep',
    bigSep_univ_equiv toLft (fun c : Dev nD => (dutyTok ER (cell c .bar) 0 0 : sProp 𝕄)),
    bigSep_univ_equiv toRgt (fun c : Dev nD => (dutyTok ER (cell c .bar) 0 1 : sProp 𝕄)),
    bigSep_univ_equiv toOpp (fun c : Dev nD => (dutyTok ER (cell c .bar) 0 2 : sProp 𝕄))]
  rfl

theorem toks_around : (bigSep Finset.univ fun c : Dev nD => (toks c : sProp 𝕄)) ⊢ bigSep Finset.univ fun c : Dev nD => iprop(barToks c ∗ sendToks c ∗ recvToks c) := by
  refine BIBase.Entails.trans (bigSep_mono fun c _ => toks_split c) (BIBase.Entails.of_eq ?_)
  refine (bigSep_sep' Finset.univ _ _).trans (((congrArg₂ _ bar_around (bigSep_sep' Finset.univ _ _)).trans ?_).trans (bigSep_sep' Finset.univ _ _).symm)
  exact congrArg _ ((congrArg _ recv_around).trans (bigSep_sep' Finset.univ _ _).symm)

theorem regroup :
    (bigSep Finset.univ fun c : Dev nD => iprop((bigSep Finset.univ fun k : Cell => iprop(∃ κ : ℕ, cellInv ER (Rd m) κ (cell c k)))
          ∗ (bigSep Finset.univ fun k : Cell => reached ER (cell c k) 0) ∗ toks c ∗ places₀ c ∗ localSems c) : sProp 𝕄)
      ⊢ bigSep Finset.univ (G' m) := by
  rw [bigSep_sep', bigSep_sep', bigSep_sep', ← bigSep_univ_prod (fun p : Dev nD × Cell => iprop(∃ κ : ℕ, cellInv ER (Rd m) κ (cell p.1 p.2))),
    ← bigSep_univ_prod (fun p : Dev nD × Cell => (reached ER (cell p.1 p.2) 0 : sProp 𝕄))]
  iintro ⟨HI, #HR, Htok, Hrest⟩
  ihave HK := (BI.bigSep_exists_pi Finset.univ (fun (p : Dev nD × Cell) (κ : ℕ) => (cellInv ER (Rd m) κ (cell p.1 p.2) : sProp 𝕄))) $$ HI
  icases HK with ⟨%K, #HI⟩
  ihave Htk := (toks_around (F := F)) $$ Htok
  iapply (BI.bigSep_with_persistent (R := records m K) (Φ := kept) (Ψ := G' m) fun c _ => by
    unfold G'
    iintro H
    iexists K
    iexact H)
  isplitr
  · unfold records; isplitl; · iexact HI
    iexact HR
  · iapply (show iprop((bigSep Finset.univ fun c : Dev nD => iprop(barToks c ∗ sendToks c ∗ recvToks c)) ∗ bigSep Finset.univ fun c : Dev nD => iprop(places₀ c ∗ localSems c))
      ⊢ (bigSep Finset.univ kept : sProp 𝕄) from Entails.of_eq (bigSep_sep' Finset.univ _ _).symm)
    isplitl [Htk]; · iexact Htk
    iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the peers owe a device at launch -/

theorem owed_cell (l : List (Dev nD × Cell)) (c : Dev nD) (k : Cell) : owed l (cell c k) () = l.count (c, k) * amt k := by
  induction l with
  | nil => show 0 = _; rw [List.count_nil, Nat.zero_mul]
  | cons p l ih =>
    unfold owed
    rw [Pi.add_apply, Finsupp.add_apply, tallyAt_apply, ih, List.count_cons]
    by_cases h : p = (c, k)
    · subst h; rw [if_pos ⟨rfl, rfl⟩, if_pos (beq_self_eq_true _)]; rw [Nat.add_mul, Nat.one_mul]
    · rw [if_neg (fun h' => h (Prod.ext (cell_inj.mp h'.1).1.symm (cell_inj.mp h'.1).2.symm)), if_neg (fun h' => h (eq_of_beq h')), Nat.add_zero, Nat.add_zero]

/-- How often a cell is raised by others, all devices together. -/
def raises : Cell → ℕ
  | .bar => 3
  | .got _ => 1
  | .sent _ => 0

theorem raises_eq (c : Dev nD) (k : Cell) : ∑ d : Dev nD, (dues d).count (c, k) = raises k := by
  rcases k with _ | t | t
  · revert c; decide
  · revert c; cases t <;> decide
  · revert c; cases t <;> decide

theorem launch_cell (c : Dev nD) (k : Cell) :
    tallyOn (cell c k) (launchCredit (Pipeline.owing O₀) 0 (cell c k)) = (tallyAt (cell c k) () (raises k * amt k) : CellTallies nD τ sig Unit) := by
  unfold tallyAt; refine congrArg _ (Finsupp.ext fun u => ?_); cases u
  rw [Pipeline.launchCredit_owing, Finsupp.single_eq_same, Finset.sum_congr rfl fun d _ => show O₀ d (cell c k) () = _ from owed_cell (dues d) c k,
    ← Finset.sum_mul, raises_eq]

def csemEmb : Cell ↪ SemLoc sig := ⟨csem, fun _ _ h => csem_inj h⟩

theorem launch_units (c : Dev nD) : (Pipeline.launchCred O₀ c : sProp 𝕄) ⊢ units c := by
  unfold Pipeline.launchCred
  refine BIBase.Entails.trans (BI.bigSep_subset (Finset.subset_univ (Finset.univ.map csemEmb))) ?_
  rw [bigSep_map]
  refine BIBase.Entails.trans (bigSep_mono (fun (k : Cell) _ => show _ ⊢ (cred (tallyAt (cell c k) () (raises k * amt k)) : sProp 𝕄) from Entails.of_eq (congrArg cred (launch_cell c k)))) ?_
  rw [bigSep_cells]
  unfold units
  rw [bigSep_tr]
  have hg (t : Tr) : (cred (tallyAt (cell c (.got t)) () (raises (.got t) * amt (.got t))) : sProp 𝕄) ⊢ cred (tallyAt (cell c (.got t)) () (size t)) :=
    BIBase.Entails.of_eq (by rw [show raises (.got t) * amt (.got t) = size t from Nat.one_mul _])
  iintro ⟨B, G1, G2, G3, G4, G5, G6, G7, -⟩
  isplitl [B]; · iexact B
  isplitl [G1]; · iapply (hg _) $$ G1
  isplitl [G2]; · iapply (hg _) $$ G2
  isplitl [G3]; · iapply (hg _) $$ G3
  isplitl [G4]; · iapply (hg _) $$ G4
  isplitl [G5]; · iapply (hg _) $$ G5
  isplitl [G6]; · iapply (hg _) $$ G6
  iapply (hg _) $$ G7

/-! ## The region -/

/-- What a device starts the region with, -/
def start (c : Dev nD) : sProp 𝕄 := iprop(G' m c ∗ units c ∗ levAts L lv ∗ arrays m c)
def Φ₀ (c : Dev nD) : sProp 𝕄 := iprop(start m c ∗ scratch c)
/-- and what it leaves it with. -/
def results (c : Dev nD) : sProp 𝕄 :=
  iprop(holds (c : Thread nD τ) xM fullShare (xOf m c) ∗ holds (c : Thread nD τ) wM fullShare (wOf m c) ∗ ((c : Thread nD τ).loc main_v1_0 ↦{fullShare} outOf c m))
def Φ₁ (c : Dev nD) : sProp 𝕄 := iprop(results m c ∗ (bigSep Finset.univ fun k : Cell => semVal (cell c k) 0) ∗ localSems c ∗ scratch c)

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(emp) :=
  (congrArg (fun S => bigSep S Φ) (Finset.univ_eq_empty (α := Fin 0))).trans bigSep_empty

set_option maxRecDepth 8000 in
theorem body_obligation (c : Dev nD) : BodyObligation (dats (F := F) m ρ 0 c) (defs₀ (F := F)) 𝒱₀ () Set.univ := fun t => by
  rw [Gen.fin_N0 t]
  rw [bigSep_W, bigSep_W]
  show iprop(Φ₀ m c ∗ (dats m ρ 0 c).owesAt () Gen.t0_0.castSucc ∗ emp) ⊢ wp frame (wpE (defs₀ (F := F)) 𝒱₀ (c : Thread nD τ) none) Set.univ (Gen.bodyAt0 Gen.t0_0)
    (fun _ => iprop(Φ₁ m c ∗ (dats m ρ 0 c).owesAt () Gen.t0_0.succ ∗ emp))
  unfold Φ₀ start G' kept Dat.owesAt Pipeline.owesWithin
  rw [show (dats m ρ 0 c).owed Gen.t0_0.castSucc = owed (dues c) from rfl, show (dats m ρ 0 c).owed Gen.t0_0.succ = owed [] from rfl]
  iintro ⟨⟨⟨⟨%K, HR, Htok, Hpl, Hloc⟩, Hu, HL, Harr⟩, Hscr⟩, ⟨%W, %hW, HO⟩, -⟩
  iapply (sound_body m K c _)
  isplitr []
  · unfold bodyPre Body.owing
    isplitl [HR HL]; · isplitl [HR] <;> iassumption
    isplitl [Htok]; · iexact Htok
    isplitl [Hpl]; · iexact Hpl
    isplitl [Hu]; · iexact Hu
    isplitl [Hloc]; · iexact Hloc
    isplitl [Harr]; · iexact Harr
    isplitl [Hscr]; · iexact Hscr
    iexists W; iexact HO
  · unfold bodyPost Body.owing Φ₁ results
    iintro ⟨Hres, Hz, Hloc, Hscr, ⟨%W', HO⟩⟩
    isplitr [HO]
    · isplitl [Hres]; · iexact Hres
      isplitl [Hz]; · iexact Hz
      isplitl [Hloc] <;> iassumption
    isplitl
    · iexists W'
      isplitr; · ipureintro; exact fun _ _ => Or.inl trivial
      iexact HO
    · iempintro

theorem share_eq (c : Dev nD) (w : Fin cfg0.W) : (dats m ρ 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, Gen.unscopedRest0_eq]
  iintro ⟨⟨Hx, Hw, Ho, Hs, Hd⟩, Hlev, Hcr, -, HG⟩
  ihave Hu := (launch_units (F := F) c) $$ Hcr
  imodintro
  unfold start arrays
  rw [← room_whole, ← room_whole, ← room_whole, ← holds_whole, ← holds_whole]
  isplitl
  · isplitl [HG]; · iexact HG
    isplitl [Hu]; · iexact Hu
    isplitl [Hlev]; · iexact Hlev
    isplitl [Hx]; · iexact Hx
    isplitl [Hw]; · iexact Hw
    isplitl [Ho]; · iexists _; iexact Ho
    isplitl [Hs]; · iexists _; iexact Hs
    iexists _; iexact Hd
  · iempintro

theorem scratch_eq (c : Dev nD) : (Pipeline.scopedRest cfg0.spec c : sProp 𝕄) = scratch c := by
  rw [Gen.scopedRest0_eq]
  unfold scratch
  rw [← room_whole, ← room_whole, ← room_whole, ← room_whole, ← room_whole, ← room_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop((results m c ∗ unscopedSems0 c) ∗ Pipeline.ownSems0 osem c ∗ Pipeline.scopedRest cfg0.spec c) := by
  rw [show (dats m ρ 0 c).Φ (Fin.last cfg0.N) = Φ₁ m c from rfl, scratch_eq]
  unfold Φ₁
  iintro ⟨Hres, Hz, Hloc, Hscr⟩
  ihave H := (sems_join c) $$ [Hz Hloc]
  · isplitl [Hz] <;> iassumption
  icases H with ⟨Hos, Hus⟩
  isplitl [Hres Hus]
  · isplitl [Hres] <;> iassumption
  isplitl [Hos] <;> iassumption

theorem waits (c : Dev nD) : (levAts L lv : sProp 𝕄) ⊢ Pipeline.cellsWaits cfgs (dats m ρ) () 0 c :=
  Pipeline.cellsWaits_intro cfgs (dats m ρ) () 0 c fun w s t => w.elim0

/-! ## The run -/

/-- A buffer held whole reads what it is held at. -/
theorem read_whole (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  ihave H := (pointsTo_read_all (Finset.univ : Finset Unit) (fun _ => ℓ) (fun _ => f) s') $$ [H HSI]
  · isplitl [H]
    · rw [bigSep_univ_of_subsingleton ()]; iexact H
    · iexact HSI
  icases H with ⟨%h, HSI⟩
  isplitr
  · ipureintro; exact h () (Finset.mem_univ ())
  · iexact HSI

/-- What a device's memory holds in the end. -/
def Done (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1_0) = outOf c m

theorem read_done (c : Dev nD) (s' : Phys nD τ sig (Elt F)) :
    iprop((results m c ∗ unscopedSems0 c) ∗ emp ∗ SI s')
      ⊢ |={Set.univ}=> (iprop(⌜Done m c s'.mem ∧ ∀ sm : SemLoc sig, sm.isScoped .tc = false → s'.mem.sem ((c : Thread nD τ), sm) = 0⌝ ∗ SI s') : sProp 𝕄) := by
  unfold results
  rw [← holds_whole, ← holds_whole]
  iintro ⟨⟨⟨Hx, Hw, Ho⟩, Hu⟩, -, HSI⟩
  ihave H := (read_whole _ _ s') $$ [Hx HSI]
  · isplitl [Hx] <;> iassumption
  icases H with ⟨%hx, HSI⟩
  ihave H := (read_whole _ _ s') $$ [Hw HSI]
  · isplitl [Hw] <;> iassumption
  icases H with ⟨%hw, HSI⟩
  ihave H := (read_whole _ _ s') $$ [Ho HSI]
  · isplitl [Ho] <;> iassumption
  icases H with ⟨%ho, HSI⟩
  ihave %h := (tcUnscoped_read c s') $$ [Hu HSI]
  · isplitl [Hu] <;> iassumption
  imodintro
  isplitr
  · ipureintro; exact ⟨⟨hx, hw, ho⟩, h⟩
  · iexact HSI

theorem fund_all : (ownU u₀ : sProp 𝕄)
    ⊢ |={Set.univ}=> iprop(BI.own (EP (initOf (Pipeline.cells cfgs Gen.cellOf_inj) (Pipeline.launchToks cfgs Gen.cellOf_inj))) ∗ bigSep Finset.univ (G m)) := by
  unfold u₀
  iintro Hu
  ihave H := (ownU_pair _ _) $$ Hu
  icases H with ⟨HP, HX⟩
  ihave H := (own_pair_emb (embR : Emb (UB × Counters) 𝕄) _ _) $$ HX
  icases H with ⟨HX, -⟩
  ihave HX := (show _ ⊢ (BI.own (ER (initOf ringCells ringToks)) : sProp 𝕄) from by unfold ER; exact BIBase.Entails.refl) $$ HX
  imod (fund_ring m) $$ HX with HG
  imodintro
  isplitl [HP] <;> iassumption

set_option maxRecDepth 8000 in
/-- From any memory with every semaphore at rest, for any float values: every fair run of the four devices ends, each
    with its operands unchanged, its result the product of all rows with its columns, and every semaphore at rest. -/
theorem run_main : θ_run defs (onTc (τ := τ) (main (F := F))) (s₀ m ρ) (fun r => (∀ c, Done m c r.2) ∧ r.2.sem = fun _ => 0) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := body_obligation m ρ) (hne := fun w => w.elim0) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := fund_all m)
    (hglob := glob m)
    (hA := fun _ _ => rfl) (hpf := fun _ k => k.elim0)
    (X := start m) (Y := fun c => iprop(results m c ∗ unscopedSems0 c)) (Z := fun _ => iprop(emp))
    (hX := start_intro m ρ) (hin := phi0_intro m ρ) (hout := phi1_exit m ρ)
    (QY := fun c s => Done m c s ∧ ∀ sm : SemLoc sig, sm.isScoped .tc = false → s.sem ((c.tc : Thread nD τ), sm) = 0)
    (hY := read_done m)
    (hQ := fun _ h hs => ⟨fun c => (h c).2.2.1, sem_eq_zero hs fun c => (h c).2.2.2⟩)

end Cert.KernelIdeal.Body

end
-- ==== Proof.Value.lean ====
/-
  The kernel's result over the extended reals is the reference's. Both are `silu` of a matrix product; the kernel adds the
  product up in eight tiles of the contracted axis, the reference at once, and the two write the sigmoid differently.
-/
module

public import proofs.«01_k».proof.Proof.KernelIdeal.Memory
public import proofs.«01_k».proof.Proof.Gen.ReferenceIdeal
public import proofs.«01_k».proof.Proof.Gen.ReferenceIdeal.Run
public import Idealize.ShloMosaic.Lib.IdealHost
public import Idealize.ShloMosaic.Lib.Layout
public import Idealize.ShloMosaic.Lib.MatmulPlain
public import Idealize.ShloMosaic.Lib.Pointwise.Sums
public import Idealize.ShloMosaic.Lib.StackMember

@[expose] public section

noncomputable section

namespace Cert.Value

open Idealize.ShloMosaic Idealize.ShloMosaic.TcCoe
open Cert.KernelIdeal (S2048x8192 S8192x1024 S2048x1024 S1024x1024)
open Cert.KernelIdeal.Body
open Cert.ReferenceIdeal (S8192x8192 S8192x4096 S_)

/-! ## The product in tiles -/

theorem tileX_apply (X : S2048x8192.Idx → EReal) (k : ℕ) (hk : k < 8) (r : Fin 2048) (t : Fin 1024) :
    tileX (F := Ideal) X k (ValueIdx.ix2 r t) = X (ValueIdx.ix2 r (⟨k * 1024 + t.val, by omega⟩ : Fin 8192)) := by
  refine congrArg X (funext fun a => Fin.ext ?_)
  match a with
  | ⟨0, _⟩ => show 0 + 1 * r.val = r.val; omega
  | ⟨1, _⟩ => show 1024 * (k % 8) + 1 * t.val = k * 1024 + t.val; omega

theorem tileW_apply (W : S8192x1024.Idx → EReal) (k : ℕ) (hk : k < 8) (t : Fin 1024) (l : Fin 1024) :
    tileW (F := Ideal) W k (ValueIdx.ix2 t l) = W (ValueIdx.ix2 (⟨k * 1024 + t.val, by omega⟩ : Fin 8192) l) := by
  refine congrArg W (funext fun a => Fin.ext ?_)
  match a with
  | ⟨0, _⟩ => show 1024 * (k % 8) + 1 * t.val = k * 1024 + t.val; omega
  | ⟨1, _⟩ => show 0 + 1 * l.val = l.val; omega

theorem accStep_apply (A x : S2048x1024.Idx → EReal) (w : S1024x1024.Idx → EReal) (r : Fin 2048) (l : Fin 1024) :
    accStep (F := Ideal) A x w (ValueIdx.ix2 r l) = A (ValueIdx.ix2 r l) + ∑ t : Fin 1024, x (ValueIdx.ix2 r t) * w (ValueIdx.ix2 t l) := by
  have h := Ideal.matmul_plain_apply (M := 2048) (K := 1024) (N := 1024) (φ₁ := .f32) (φ₂ := .f32) none x w
    (constant (F := Ideal) S2048x1024 .f32 0x00000000#32) r l
  have h0 : constant (F := Ideal) S2048x1024 .f32 0x00000000#32 (ValueIdx.ix2 r l) = (0 : EReal) := Ideal.ofBits_zero_f32
  rw [h0, zero_add] at h
  exact congrArg (A (ValueIdx.ix2 r l) + ·) h

/-- The accumulator after `n` tiles is the sum over those tiles. -/
theorem accN_apply (X : S2048x8192.Idx → EReal) (W : S8192x1024.Idx → EReal) (r : Fin 2048) (l : Fin 1024) :
    ∀ (n : ℕ) (hn : n ≤ 8), accN (F := Ideal) X W n (ValueIdx.ix2 r l)
      = ∑ k : Fin n, ∑ t : Fin 1024, X (ValueIdx.ix2 r (⟨k.val * 1024 + t.val, by omega⟩ : Fin 8192)) * W (ValueIdx.ix2 (⟨k.val * 1024 + t.val, by omega⟩ : Fin 8192) l)
  | 0, _ => by
    rw [Fin.sum_univ_zero]
    exact Ideal.ofBits_zero_f32
  | n + 1, hn => by
    rw [Fin.sum_univ_castSucc]
    show accStep (F := Ideal) (accN X W n) (tileX X n) (tileW W n) (ValueIdx.ix2 r l) = _
    rw [accStep_apply, accN_apply X W r l n (by omega)]
    refine congrArg (_ + ·) (Finset.sum_congr rfl fun t _ => ?_)
    rw [tileX_apply X n (by omega), tileW_apply W n (by omega)]
    rfl

/-- After all eight it is the whole row times the whole column. -/
theorem accN_eight (X : S2048x8192.Idx → EReal) (W : S8192x1024.Idx → EReal) (r : Fin 2048) (l : Fin 1024) :
    accN (F := Ideal) X W 8 (ValueIdx.ix2 r l) = ∑ k : Fin 8192, X (ValueIdx.ix2 r k) * W (ValueIdx.ix2 k l) := by
  rw [accN_apply X W r l 8 le_rfl, Fin.sum_univ_tiles 8 1024 (by norm_num) fun k : Fin 8192 => X (ValueIdx.ix2 r k) * W (ValueIdx.ix2 k l)]

/-! ## The sigmoid, written both ways -/

theorem exp_nonneg (y : EReal) : 0 ≤ Ideal.exp y := by
  induction y with
  | bot => exact le_rfl
  | top => exact le_top
  | coe r => exact EReal.coe_nonneg.mpr (Real.exp_pos r).le

theorem one_add_exp_ne_zero (y : EReal) : (1 : EReal) + Ideal.exp y ≠ 0 :=
  (lt_of_lt_of_le zero_lt_one (le_add_of_nonneg_right (exp_nonneg y))).ne'

theorem sigmoid_both (y : EReal) :
    y * Ideal.div 1 (1 + Ideal.exp (0 - y)) = Ideal.div y (1 + Ideal.exp (-(min ⊤ (max ⊥ y)))) := by
  have h : (0 : EReal) - y = -y := by rw [sub_eq_add_neg, zero_add]
  rw [h, max_eq_right bot_le, min_eq_right le_top, Ideal.div, Ideal.div, if_neg (one_add_exp_ne_zero _), if_neg (one_add_exp_ne_zero _), one_mul]

/-- What the kernel makes of a product. -/
theorem silu_apply (v : S2048x1024.Idx → EReal) (i : S2048x1024.Idx) :
    silu (F := Ideal) v i = v i * Ideal.div 1 (1 + Ideal.exp (0 - v i)) := by
  show v i * Ideal.div (Ideal.ofBits .f32 0x3F800000#32) (Ideal.ofBits .f32 0x3F800000#32 + Ideal.exp (Ideal.ofBits .f32 0x00000000#32 - v i)) = _
  rw [Ideal.ofBits_one_f32, Ideal.ofBits_zero_f32]

/-! ## The reference -/

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- What the reference makes of a product. -/
abbrev refTail (y : FVec Ideal S8192x4096 .f32) : FVec Ideal S8192x4096 .f32 :=
  Host.divf y
    (addf (broadcastInDim S8192x4096 ![] Cert.ReferenceIdeal.Facts₀.bcast_S_S8192x4096 (constant S_ .f32 0x3F800000#32))
      (Host.exp (Host.negf (minimumf (broadcastInDim S8192x4096 ![] Cert.ReferenceIdeal.Facts₀.bcast_S_S8192x4096 (id (constant S_ .f32 0x7F800000#32)))
        (maximumf (broadcastInDim S8192x4096 ![] Cert.ReferenceIdeal.Facts₀.bcast_S_S8192x4096 (id (constant S_ .f32 0xFF800000#32))) y)))))

theorem refTail_apply (y : FVec Ideal S8192x4096 .f32) (j : S8192x4096.Idx) :
    refTail y j = Ideal.div (y j) (1 + Ideal.exp (-(min ⊤ (max ⊥ (y j))))) := by
  rw [← ofBits_top, ← ofBits_bot, ← Ideal.ofBits_one_f32]
  rfl

/-- The reference's result of its two arguments. -/
abbrev refOut (X : FVec Ideal S8192x8192 .f32) (W : FVec Ideal S8192x4096 .f32) : FVec Ideal S8192x4096 .f32 :=
  refTail (Host.dotGeneral Cert.ReferenceIdeal.dot_S8192x8192_S8192x4096_S8192x4096_1_0_0_1_n_n none X W)

theorem refOut_apply (X : FVec Ideal S8192x8192 .f32) (W : FVec Ideal S8192x4096 .f32) (r : Fin 8192) (l : Fin 4096) :
    refOut X W (ValueIdx.ix2 r l) = Ideal.div (∑ k : Fin 8192, X (ValueIdx.ix2 r k) * W (ValueIdx.ix2 k l))
      (1 + Ideal.exp (-(min ⊤ (max ⊥ (∑ k : Fin 8192, X (ValueIdx.ix2 r k) * W (ValueIdx.ix2 k l)))))) := by
  have h : Host.dotGeneral Cert.ReferenceIdeal.dot_S8192x8192_S8192x4096_S8192x4096_1_0_0_1_n_n none X W (ValueIdx.ix2 r l)
      = ∑ k : Fin 8192, X (ValueIdx.ix2 r k) * W (ValueIdx.ix2 k l) := Idealize.ShloMosaic.StackMember.dotGeneral_plain_apply none X W r l
  rw [← h]
  exact refTail_apply _ _

/-! ## One is the other's block -/

variable (m : (ℓ : Loc Cert.KernelIdeal.nD Cert.KernelIdeal.τ Cert.KernelIdeal.sig) → Buf (Elt Ideal) ℓ)

theorem outOf_eq (X : FVec Ideal S8192x8192 .f32) (W : FVec Ideal S8192x4096 .f32)
    (hX : ∀ d : Dev Cert.KernelIdeal.nD, xOf m d = Layout.block ⟨2, ![2048, 8192]⟩ ⟨2, ![8192, 8192]⟩ 0 4 d X)
    (hW : ∀ d : Dev Cert.KernelIdeal.nD, wOf m d = Layout.block ⟨2, ![8192, 1024]⟩ ⟨2, ![8192, 4096]⟩ 1 4 d W) (c : Dev Cert.KernelIdeal.nD) :
    outOf c m = Layout.block ⟨2, ![8192, 1024]⟩ ⟨2, ![8192, 4096]⟩ 1 4 c (refOut X W) := by
  funext i
  have hi : (i 0).val < 8192 := (i 0).isLt
  have hj : (i 1).val < 1024 := (i 1).isLt
  have hc : c.val < 4 := c.isLt
  set d : Dev Cert.KernelIdeal.nD := ⟨(i 0).val / 2048, by show (i 0).val / 2048 < 4; omega⟩ with hd
  have hl : outOf c m i = prod (F := Ideal) (xOf m d) (wOf m c) (ValueIdx.ix2 (⟨(i 0).val % 2048, Nat.mod_lt _ (by decide)⟩ : Fin 2048) (⟨(i 1).val, hj⟩ : Fin 1024)) := by
    refine congrArg (prod (F := Ideal) (xOf m d) (wOf m c)) (funext fun a => Fin.ext ?_)
    match a with
    | ⟨0, _⟩ => rfl
    | ⟨1, _⟩ => rfl
  have hr : Layout.block ⟨2, ![8192, 1024]⟩ ⟨2, ![8192, 4096]⟩ 1 4 c (refOut X W) (by decide) i
      = refOut X W (ValueIdx.ix2 (⟨(i 0).val, hi⟩ : Fin 8192) (⟨c.val * 1024 + (i 1).val, by omega⟩ : Fin 4096)) := by
    refine congrArg (refOut X W) (funext fun a => Fin.ext ?_)
    match a with
    | ⟨0, _⟩ => rfl
    | ⟨1, _⟩ => rfl
  rw [hl, hr, refOut_apply, ← sigmoid_both]
  show silu (F := Ideal) (accN (xOf m d) (wOf m c) 8) _ = _
  rw [silu_apply, accN_eight, hX, hW]
  have hs : ∀ k : Fin 8192, Layout.block ⟨2, ![2048, 8192]⟩ ⟨2, ![8192, 8192]⟩ 0 4 d X (by decide) (ValueIdx.ix2 (⟨(i 0).val % 2048, Nat.mod_lt _ (by decide)⟩ : Fin 2048) k)
      * Layout.block ⟨2, ![8192, 1024]⟩ ⟨2, ![8192, 4096]⟩ 1 4 c W (by decide) (ValueIdx.ix2 k (⟨(i 1).val, hj⟩ : Fin 1024))
      = X (ValueIdx.ix2 (⟨(i 0).val, hi⟩ : Fin 8192) k) * W (ValueIdx.ix2 k (⟨c.val * 1024 + (i 1).val, by omega⟩ : Fin 4096)) := fun k => by
    refine congrArg₂ (· * ·) (congrArg X (funext fun a => Fin.ext ?_)) (congrArg W (funext fun a => Fin.ext ?_))
    · match a with
      | ⟨0, _⟩ => show (i 0).val / 2048 * 2048 + (i 0).val % 2048 = (i 0).val; omega
      | ⟨1, _⟩ => rfl
    · match a with
      | ⟨0, _⟩ => rfl
      | ⟨1, _⟩ => rfl
  rw [Finset.sum_congr rfl fun k _ => hs k]

end Cert.Value

end
-- ==== Proof.lean ====
/-
  The claims of the certificate. Each kernel's run is proved in `Proof/Kernel` and `Proof/KernelIdeal` (the same text at the
  two readings of a float), the reference's run is generated, and `Proof/Value.lean` has the one result to be the other's block.
-/
module

public import proofs.«01_k».proof.Defs
public import proofs.«01_k».proof.Proof.Kernel.Launch
public import proofs.«01_k».proof.Proof.KernelIdeal.Launch
public import proofs.«01_k».proof.Proof.Value
public import Idealize.ShloMosaic.Lib.Quiescent

@[expose] public section

noncomputable section

namespace Cert.Proof

open Idealize.ShloMosaic Idealize.ShloMosaic.TcCoe Idealize.SL.Sem

/-- The kernel runs, leaves its arguments as they were and every semaphore at zero. -/
theorem frame_kernel : Cert.quiescent_Kernel := fun m ρ _ =>
  (θ_run Cert.Kernel.defs _ _).mono (fun _ h => ⟨fun c => ⟨(h.1 c).1, (h.1 c).2.1⟩, h.2⟩)
    (Cert.Kernel.Body.run_main (F := Bits) m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Body.run_main (F := Ideal) m ρ)

/-- The reference runs and leaves its arguments as they were; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the columns of the reference's. -/
theorem algebraic : Cert.algebraic_KernelIdeal_ReferenceIdeal := by
  intro m ρ m' ρ' _ hargs
  refine ⟨Cert.Value.refOut (m' ((0 : Dev Cert.ReferenceIdeal.nD).tc.loc Cert.ReferenceIdeal.main_arg0)) (m' ((0 : Dev Cert.ReferenceIdeal.nD).tc.loc Cert.ReferenceIdeal.main_arg1)), ?_, ?_⟩
  · exact (θ_run Cert.KernelIdeal.defs _ _).mono
      (fun _ h c => ⟨(h.1 c).2.2.trans (Cert.Value.outOf_eq m _ _ (fun d => (hargs d).1) (fun d => (hargs d).2) c), (h.1 c).1, (h.1 c).2.1⟩)
      (Cert.KernelIdeal.Body.run_main (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
